-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_vocab_KernelIdeal [hPre_in_vocab_KernelIdeal : Cert.Pre_in_vocab_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab_ReferenceIdeal [hPre_in_vocab_ReferenceIdeal : Cert.Pre_in_vocab_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_vocab_KernelIdeal [hKernelIdeal : Cert.KernelIdeal.Facts] [hPre_in_vocab_KernelIdeal : Cert.Pre_in_vocab_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_vocab_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_vocab_ReferenceIdeal [hReferenceIdeal : Cert.ReferenceIdeal.Facts] [hPre_in_vocab_ReferenceIdeal : Cert.Pre_in_vocab_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_vocab_KernelIdeal [hKernelIdeal : Cert.KernelIdeal.Facts] [hReferenceIdeal : Cert.ReferenceIdeal.Facts] [hPre_in_vocab_KernelIdeal : Cert.Pre_in_vocab_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_vocab_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 1024]⟩ ⟨2, ![16384, 1024]⟩ (Layout.meshBlock [2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_vocab_KernelIdeal : Cert.Pre_in_vocab_KernelIdeal.Facts) (hPre_in_vocab_ReferenceIdeal : Cert.Pre_in_vocab_ReferenceIdeal.Facts),
    quiescent_Kernel (hKernel := hKernel)
    ∧ quiescent_KernelIdeal (hKernelIdeal := hKernelIdeal)
    ∧ quiescent_KernelIdeal_pre_in_vocab_KernelIdeal (hKernelIdeal := hKernelIdeal) (hPre_in_vocab_KernelIdeal := hPre_in_vocab_KernelIdeal)
    ∧ quiescent_ReferenceIdeal (hReferenceIdeal := hReferenceIdeal)
    ∧ quiescent_ReferenceIdeal_pre_in_vocab_ReferenceIdeal (hReferenceIdeal := hReferenceIdeal) (hPre_in_vocab_ReferenceIdeal := hPre_in_vocab_ReferenceIdeal)
    ∧ preserves_Kernel_KernelIdeal
    ∧ algebraic_KernelIdeal_ReferenceIdeal_pre_in_vocab_KernelIdeal (hKernelIdeal := hKernelIdeal) (hReferenceIdeal := hReferenceIdeal) (hPre_in_vocab_KernelIdeal := hPre_in_vocab_KernelIdeal)
-- ==== Pre_in_vocab_KernelIdeal.lean ====
abbrev S1024 : Shape := ⟨1, ![1024]⟩
abbrev S8192x1024 : Shape := ⟨2, ![8192, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : IVec S1024 32) (main_arg1 : FVec F S8192x1024 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 16384#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Pre_in_vocab_ReferenceIdeal.lean ====
abbrev S1024 : Shape := ⟨1, ![1024]⟩
abbrev S16384x1024 : Shape := ⟨2, ![16384, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : IVec S1024 32) (main_arg1 : FVec F S16384x1024 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 16384#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024 : Shape := ⟨1, ![1024]⟩
abbrev S8192x1024 : Shape := ⟨2, ![8192, 1024]⟩
abbrev S_ : Shape := ⟨0, ![]⟩
abbrev S512 : Shape := ⟨1, ![512]⟩
abbrev S1024x1 : Shape := ⟨2, ![1024, 1]⟩
abbrev S1024x1024 : Shape := ⟨2, ![1024, 1024]⟩
abbrev S512x1024 : Shape := ⟨2, ![512, 1024]⟩
abbrev S8 : Shape := ⟨1, ![8]⟩
abbrev S1 : Shape := ⟨1, ![1]⟩
abbrev S1x1024 : Shape := ⟨2, ![1, 1024]⟩
abbrev S64x1 : Shape := ⟨2, ![64, 1]⟩
abbrev S64x1024 : Shape := ⟨2, ![64, 1024]⟩

abbrev nBuf : Space → Nat
  | .hbm => 28
  | .vmem => 7
  | .smem => 1
  | _ => 0

abbrev bufTy : (tb : Table) → Fin (tcTables nBuf tb) → BufTy
  | .hbm, ⟨0, _⟩ => ⟨S1024, .i32⟩
  | .hbm, ⟨1, _⟩ => ⟨S8192x1024, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S512, .i32⟩
  | .hbm, ⟨21, _⟩ => ⟨S512, .i32⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S1024x1, .i32⟩
  | .hbm, ⟨27, _⟩ => ⟨S1024x1024, .f32⟩
  | .local _ .vmem, ⟨0, _⟩ => ⟨S1024x1, .i32⟩
  | .local _ .vmem, ⟨1, _⟩ => ⟨S1024x1024, .f32⟩
  | .local _ .vmem, ⟨2, _⟩ => ⟨S512x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .smem, ⟨0, _⟩ => ⟨S512, .i32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 1 → Bool
  | ⟨0, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 1 43 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_c_3 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7 : BitVec 32 := 2#32
  let v13 : BitVec 32 := Scalar.muli v2 c2_i32_7
  let v14 : BitVec 32 := Scalar.addi c0_i32 v13
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_8 : BitVec 32 := 1#32
  let v15 : BitVec 32 := Scalar.muli v6 c1_i32_8
  let v16 : BitVec 32 := Scalar.addi v14 v15
  v16.toNat
def k0_dev2 (d0 : Dev nD) : Nat :=
  let c0_i32_11 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_10 : BitVec 32 := 2#32
  let v17 : BitVec 32 := Scalar.muli v7 c2_i32_10
  let v18 : BitVec 32 := Scalar.addi c0_i32_11 v17
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_12 : BitVec 32 := 1#32
  let v19 : BitVec 32 := Scalar.muli v5 c1_i32_12
  let v20 : BitVec 32 := Scalar.addi v18 v19
  v20.toNat
@[reducible] def k0_t1_loop : Scf.Loop 32 :=
  let c0_i32_15 : BitVec 32 := 0#32
  let c32_i32 : BitVec 32 := 32#32
  let v23 : BitVec 32 := Scalar.addi c0_i32_15 c32_i32
  let c1_i32_16 : BitVec 32 := 1#32
  ⟨c0_i32_15, v23, c1_i32_16⟩
def k0_off1 (d0 : Dev nD) (k0_t1 : Fin k0_t1_loop.trips) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v21 : BitVec 32 := Scalar.muli v2 c256_i32
  let c0_i32_14 : BitVec 32 := 0#32
  let v22 : BitVec 32 := Scalar.addi v21 c0_i32_14
  let c0_i32_15 : BitVec 32 := 0#32
  let c1_i32_16 : BitVec 32 := 1#32
  let arg14 : BitVec 32 := Scf.iv c0_i32_15 c1_i32_16 k0_t1
  let v685 : BitVec 32 := Scalar.addi v22 arg14
  let v686 : Index := Scalar.indexCast v685
  ![v686.toNat]
def k0_off2 (k0_t1 : Fin k0_t1_loop.trips) : Fin 2 → Nat :=
  let c0_i32_630 : BitVec 32 := 0#32
  let c2_i32_629 : BitVec 32 := 2#32
  let c0_i32_15 : BitVec 32 := 0#32
  let c1_i32_16 : BitVec 32 := 1#32
  let arg14 : BitVec 32 := Scf.iv c0_i32_15 c1_i32_16 k0_t1
  let v690 : BitVec 32 := Scalar.muli c2_i32_629 arg14
  let v691 : BitVec 32 := Scalar.addi c0_i32_630 v690
  let c0_i32_632 : BitVec 32 := 0#32
  ![v691.toNat, 0]
def k0_off3 (v687 : BitVec 32) : Fin 2 → Nat :=
  let c65535_i32 : BitVec 32 := 65535#32
  let v688 : BitVec 32 := Scalar.andi v687 c65535_i32
  let c0_i32_633 : BitVec 32 := 0#32
  ![v688.toNat, 0]

def k0_off4 (k0_t1 : Fin k0_t1_loop.trips) : Fin 2 → Nat :=
  let c0_i32_630 : BitVec 32 := 0#32
  let c2_i32_629 : BitVec 32 := 2#32
  let c0_i32_15 : BitVec 32 := 0#32
  let c1_i32_16 : BitVec 32 := 1#32
  let arg14 : BitVec 32 := Scf.iv c0_i32_15 c1_i32_16 k0_t1
  let v690 : BitVec 32 := Scalar.muli c2_i32_629 arg14
  let v691 : BitVec 32 := Scalar.addi c0_i32_630 v690
  let c1_i32_634 : BitVec 32 := 1#32
  let v696 : BitVec 32 := Scalar.addi v691 c1_i32_634
  let c0_i32_636 : BitVec 32 := 0#32
  ![v696.toNat, 0]
def k0_off5 (v687 : BitVec 32) : Fin 2 → Nat :=
  let c16_i32 : BitVec 32 := 16#32
  let v689 : BitVec 32 := Scalar.shrsi v687 c16_i32
  let c0_i32_637 : BitVec 32 := 0#32
  ![v689.toNat, 0]

def k0_chk1 (v687 : BitVec 32) : Prop :=
  (∀ a, (k0_off3 v687) a + S1x1024.size a ≤ S8192x1024.size a) ∧
  (∀ a, (k0_off5 v687) a + S1x1024.size a ≤ S8192x1024.size a)
theorem k0_off3_inb : ∀ (v687 : BitVec 32) (k0_hw1 : k0_chk1 v687), ∀ a, (k0_off3 v687) a + S1x1024.size a ≤ S8192x1024.size a := fun v687 k0_hw1 => k0_hw1.1
theorem k0_off5_inb : ∀ (v687 : BitVec 32) (k0_hw1 : k0_chk1 v687), ∀ a, (k0_off5 v687) a + S1x1024.size a ≤ S8192x1024.size a := fun v687 k0_hw1 => k0_hw1.2

@[reducible] def k0_t2_loop : Scf.Loop 32 :=
  let c0_i32_20 : BitVec 32 := 0#32
  let c32_i32_21 : BitVec 32 := 32#32
  let v26 : BitVec 32 := Scalar.addi c0_i32_20 c32_i32_21
  let c1_i32_22 : BitVec 32 := 1#32
  ⟨c0_i32_20, v26, c1_i32_22⟩
def k0_off6 (d0 : Dev nD) (k0_t2 : Fin k0_t2_loop.trips) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_18 : BitVec 32 := 256#32
  let v24 : BitVec 32 := Scalar.muli v2 c256_i32_18
  let c32_i32_19 : BitVec 32 := 32#32
  let v25 : BitVec 32 := Scalar.addi v24 c32_i32_19
  let c0_i32_20 : BitVec 32 := 0#32
  let c1_i32_22 : BitVec 32 := 1#32
  let arg14 : BitVec 32 := Scf.iv c0_i32_20 c1_i32_22 k0_t2
  let v685 : BitVec 32 := Scalar.addi v25 arg14
  let v686 : Index := Scalar.indexCast v685
  ![v686.toNat]
def k0_off7 (k0_t2 : Fin k0_t2_loop.trips) : Fin 2 → Nat :=
  let c64_i32_630 : BitVec 32 := 64#32
  let c2_i32_629 : BitVec 32 := 2#32
  let c0_i32_20 : BitVec 32 := 0#32
  let c1_i32_22 : BitVec 32 := 1#32
  let arg14 : BitVec 32 := Scf.iv c0_i32_20 c1_i32_22 k0_t2
  let v690 : BitVec 32 := Scalar.muli c2_i32_629 arg14
  let v691 : BitVec 32 := Scalar.addi c64_i32_630 v690
  let c0_i32_632 : BitVec 32 := 0#32
  ![v691.toNat, 0]
def k0_off8 (v687 : BitVec 32) : Fin 2 → Nat :=
  let c65535_i32 : BitVec 32 := 65535#32
  let v688 : BitVec 32 := Scalar.andi v687 c65535_i32
  let c0_i32_633 : BitVec 32 := 0#32
  ![v688.toNat, 0]

def k0_off9 (k0_t2 : Fin k0_t2_loop.trips) : Fin 2 → Nat :=
  let c64_i32_630 : BitVec 32 := 64#32
  let c2_i32_629 : BitVec 32 := 2#32
  let c0_i32_20 : BitVec 32 := 0#32
  let c1_i32_22 : BitVec 32 := 1#32
  let arg14 : BitVec 32 := Scf.iv c0_i32_20 c1_i32_22 k0_t2
  let v690 : BitVec 32 := Scalar.muli c2_i32_629 arg14
  let v691 : BitVec 32 := Scalar.addi c64_i32_630 v690
  let c1_i32_634 : BitVec 32 := 1#32
  let v696 : BitVec 32 := Scalar.addi v691 c1_i32_634
  let c0_i32_636 : BitVec 32 := 0#32
  ![v696.toNat, 0]
def k0_off10 (v687 : BitVec 32) : Fin 2 → Nat :=
  let c16_i32 : BitVec 32 := 16#32
  let v689 : BitVec 32 := Scalar.shrsi v687 c16_i32
  let c0_i32_637 : BitVec 32 := 0#32
  ![v689.toNat, 0]

def k0_chk2 (v687 : BitVec 32) : Prop :=
  (∀ a, (k0_off8 v687) a + S1x1024.size a ≤ S8192x1024.size a) ∧
  (∀ a, (k0_off10 v687) a + S1x1024.size a ≤ S8192x1024.size a)
theorem k0_off8_inb : ∀ (v687 : BitVec 32) (k0_hw2 : k0_chk2 v687), ∀ a, (k0_off8 v687) a + S1x1024.size a ≤ S8192x1024.size a := fun v687 k0_hw2 => k0_hw2.1
theorem k0_off10_inb : ∀ (v687 : BitVec 32) (k0_hw2 : k0_chk2 v687), ∀ a, (k0_off10 v687) a + S1x1024.size a ≤ S8192x1024.size a := fun v687 k0_hw2 => k0_hw2.2

@[reducible] def k0_t3_loop : Scf.Loop 32 :=
  let c0_i32_24 : BitVec 32 := 0#32
  let c64_i32 : BitVec 32 := 64#32
  let v27 : BitVec 32 := Scalar.addi c0_i32_24 c64_i32
  let c1_i32_25 : BitVec 32 := 1#32
  ⟨c0_i32_24, v27, c1_i32_25⟩
def k0_off11 (d0 : Dev nD) (c0_i32_26 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v9 : BitVec 32 := Scalar.muli v2 c512_i32
  let v28 : BitVec 32 := Scalar.addi v9 c0_i32_26
  let v29 : Index := Scalar.indexCast v28
  let c0 : Index := 0#32
  ![v29.toNat, 0]
def k0_dev3 (d0 : Dev nD) : Nat :=
  let c0_i32_36 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_35 : BitVec 32 := 2#32
  let v48 : BitVec 32 := Scalar.muli v2 c2_i32_35
  let v49 : BitVec 32 := Scalar.addi c0_i32_36 v48
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_37 : BitVec 32 := 1#32
  let v50 : BitVec 32 := Scalar.muli v6 c1_i32_37
  let v51 : BitVec 32 := Scalar.addi v49 v50
  v51.toNat
@[reducible] def k0_t4_loop : Scf.Loop 32 :=
  let c0_i32_44 : BitVec 32 := 0#32
  let c32_i32_45 : BitVec 32 := 32#32
  let v60 : BitVec 32 := Scalar.addi c0_i32_44 c32_i32_45
  let c1_i32_46 : BitVec 32 := 1#32
  ⟨c0_i32_44, v60, c1_i32_46⟩
def k0_off12 (d0 : Dev nD) (k0_t4 : Fin k0_t4_loop.trips) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_42 : BitVec 32 := 256#32
  let v58 : BitVec 32 := Scalar.muli v2 c256_i32_42
  let c64_i32_43 : BitVec 32 := 64#32
  let v59 : BitVec 32 := Scalar.addi v58 c64_i32_43
  let c0_i32_44 : BitVec 32 := 0#32
  let c1_i32_46 : BitVec 32 := 1#32
  let arg14 : BitVec 32 := Scf.iv c0_i32_44 c1_i32_46 k0_t4
  let v685 : BitVec 32 := Scalar.addi v59 arg14
  let v686 : Index := Scalar.indexCast v685
  ![v686.toNat]
def k0_off13 (k0_t4 : Fin k0_t4_loop.trips) : Fin 2 → Nat :=
  let c128_i32_630 : BitVec 32 := 128#32
  let c2_i32_629 : BitVec 32 := 2#32
  let c0_i32_44 : BitVec 32 := 0#32
  let c1_i32_46 : BitVec 32 := 1#32
  let arg14 : BitVec 32 := Scf.iv c0_i32_44 c1_i32_46 k0_t4
  let v690 : BitVec 32 := Scalar.muli c2_i32_629 arg14
  let v691 : BitVec 32 := Scalar.addi c128_i32_630 v690
  let c0_i32_632 : BitVec 32 := 0#32
  ![v691.toNat, 0]
def k0_off14 (v687 : BitVec 32) : Fin 2 → Nat :=
  let c65535_i32 : BitVec 32 := 65535#32
  let v688 : BitVec 32 := Scalar.andi v687 c65535_i32
  let c0_i32_633 : BitVec 32 := 0#32
  ![v688.toNat, 0]

def k0_off15 (k0_t4 : Fin k0_t4_loop.trips) : Fin 2 → Nat :=
  let c128_i32_630 : BitVec 32 := 128#32
  let c2_i32_629 : BitVec 32 := 2#32
  let c0_i32_44 : BitVec 32 := 0#32
  let c1_i32_46 : BitVec 32 := 1#32
  let arg14 : BitVec 32 := Scf.iv c0_i32_44 c1_i32_46 k0_t4
  let v690 : BitVec 32 := Scalar.muli c2_i32_629 arg14
  let v691 : BitVec 32 := Scalar.addi c128_i32_630 v690
  let c1_i32_634 : BitVec 32 := 1#32
  let v696 : BitVec 32 := Scalar.addi v691 c1_i32_634
  let c0_i32_636 : BitVec 32 := 0#32
  ![v696.toNat, 0]
def k0_off16 (v687 : BitVec 32) : Fin 2 → Nat :=
  let c16_i32 : BitVec 32 := 16#32
  let v689 : BitVec 32 := Scalar.shrsi v687 c16_i32
  let c0_i32_637 : BitVec 32 := 0#32
  ![v689.toNat, 0]

def k0_chk3 (v687 : BitVec 32) : Prop :=
  (∀ a, (k0_off14 v687) a + S1x1024.size a ≤ S8192x1024.size a) ∧
  (∀ a, (k0_off16 v687) a + S1x1024.size a ≤ S8192x1024.size a)
theorem k0_off14_inb : ∀ (v687 : BitVec 32) (k0_hw3 : k0_chk3 v687), ∀ a, (k0_off14 v687) a + S1x1024.size a ≤ S8192x1024.size a := fun v687 k0_hw3 => k0_hw3.1
theorem k0_off16_inb : ∀ (v687 : BitVec 32) (k0_hw3 : k0_chk3 v687), ∀ a, (k0_off16 v687) a + S1x1024.size a ≤ S8192x1024.size a := fun v687 k0_hw3 => k0_hw3.2

@[reducible] def k0_t5_loop : Scf.Loop 32 :=
  let c0_i32_48 : BitVec 32 := 0#32
  let c64_i32_49 : BitVec 32 := 64#32
  let v61 : BitVec 32 := Scalar.addi c0_i32_48 c64_i32_49
  let c1_i32_50 : BitVec 32 := 1#32
  ⟨c0_i32_48, v61, c1_i32_50⟩
def k0_dev4 (d0 : Dev nD) : Nat :=
  let c0_i32_62 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_61 : BitVec 32 := 2#32
  let v82 : BitVec 32 := Scalar.muli v2 c2_i32_61
  let v83 : BitVec 32 := Scalar.addi c0_i32_62 v82
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_63 : BitVec 32 := 1#32
  let v84 : BitVec 32 := Scalar.muli v6 c1_i32_63
  let v85 : BitVec 32 := Scalar.addi v83 v84
  v85.toNat
def k0_off17 (d0 : Dev nD) (c0_i32_83 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v9 : BitVec 32 := Scalar.muli v2 c512_i32
  let v107 : BitVec 32 := Scalar.addi v9 c0_i32_83
  let v108 : Index := Scalar.indexCast v107
  let c0_84 : Index := 0#32
  ![v108.toNat, 0]
def k0_dev5 (d0 : Dev nD) : Nat :=
  let c0_i32_88 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_87 : BitVec 32 := 2#32
  let v110 : BitVec 32 := Scalar.muli v7 c2_i32_87
  let v111 : BitVec 32 := Scalar.addi c0_i32_88 v110
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_89 : BitVec 32 := 1#32
  let v112 : BitVec 32 := Scalar.muli v5 c1_i32_89
  let v113 : BitVec 32 := Scalar.addi v111 v112
  v113.toNat
@[reducible] def k0_t6_loop : Scf.Loop 32 :=
  let c0_i32_95 : BitVec 32 := 0#32
  let c32_i32_96 : BitVec 32 := 32#32
  let v122 : BitVec 32 := Scalar.addi c0_i32_95 c32_i32_96
  let c1_i32_97 : BitVec 32 := 1#32
  ⟨c0_i32_95, v122, c1_i32_97⟩
def k0_off18 (d0 : Dev nD) (k0_t6 : Fin k0_t6_loop.trips) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_94 : BitVec 32 := 256#32
  let v120 : BitVec 32 := Scalar.muli v2 c256_i32_94
  let c96_i32 : BitVec 32 := 96#32
  let v121 : BitVec 32 := Scalar.addi v120 c96_i32
  let c0_i32_95 : BitVec 32 := 0#32
  let c1_i32_97 : BitVec 32 := 1#32
  let arg14 : BitVec 32 := Scf.iv c0_i32_95 c1_i32_97 k0_t6
  let v685 : BitVec 32 := Scalar.addi v121 arg14
  let v686 : Index := Scalar.indexCast v685
  ![v686.toNat]
def k0_off19 (k0_t6 : Fin k0_t6_loop.trips) : Fin 2 → Nat :=
  let c192_i32_630 : BitVec 32 := 192#32
  let c2_i32_629 : BitVec 32 := 2#32
  let c0_i32_95 : BitVec 32 := 0#32
  let c1_i32_97 : BitVec 32 := 1#32
  let arg14 : BitVec 32 := Scf.iv c0_i32_95 c1_i32_97 k0_t6
  let v690 : BitVec 32 := Scalar.muli c2_i32_629 arg14
  let v691 : BitVec 32 := Scalar.addi c192_i32_630 v690
  let c0_i32_632 : BitVec 32 := 0#32
  ![v691.toNat, 0]
def k0_off20 (v687 : BitVec 32) : Fin 2 → Nat :=
  let c65535_i32 : BitVec 32 := 65535#32
  let v688 : BitVec 32 := Scalar.andi v687 c65535_i32
  let c0_i32_633 : BitVec 32 := 0#32
  ![v688.toNat, 0]

def k0_off21 (k0_t6 : Fin k0_t6_loop.trips) : Fin 2 → Nat :=
  let c192_i32_630 : BitVec 32 := 192#32
  let c2_i32_629 : BitVec 32 := 2#32
  let c0_i32_95 : BitVec 32 := 0#32
  let c1_i32_97 : BitVec 32 := 1#32
  let arg14 : BitVec 32 := Scf.iv c0_i32_95 c1_i32_97 k0_t6
  let v690 : BitVec 32 := Scalar.muli c2_i32_629 arg14
  let v691 : BitVec 32 := Scalar.addi c192_i32_630 v690
  let c1_i32_634 : BitVec 32 := 1#32
  let v696 : BitVec 32 := Scalar.addi v691 c1_i32_634
  let c0_i32_636 : BitVec 32 := 0#32
  ![v696.toNat, 0]
def k0_off22 (v687 : BitVec 32) : Fin 2 → Nat :=
  let c16_i32 : BitVec 32 := 16#32
  let v689 : BitVec 32 := Scalar.shrsi v687 c16_i32
  let c0_i32_637 : BitVec 32 := 0#32
  ![v689.toNat, 0]

def k0_chk4 (v687 : BitVec 32) : Prop :=
  (∀ a, (k0_off20 v687) a + S1x1024.size a ≤ S8192x1024.size a) ∧
  (∀ a, (k0_off22 v687) a + S1x1024.size a ≤ S8192x1024.size a)
theorem k0_off20_inb : ∀ (v687 : BitVec 32) (k0_hw4 : k0_chk4 v687), ∀ a, (k0_off20 v687) a + S1x1024.size a ≤ S8192x1024.size a := fun v687 k0_hw4 => k0_hw4.1
theorem k0_off22_inb : ∀ (v687 : BitVec 32) (k0_hw4 : k0_chk4 v687), ∀ a, (k0_off22 v687) a + S1x1024.size a ≤ S8192x1024.size a := fun v687 k0_hw4 => k0_hw4.2

@[reducible] def k0_t7_loop : Scf.Loop 32 :=
  let c0_i32_99 : BitVec 32 := 0#32
  let c64_i32_100 : BitVec 32 := 64#32
  let v123 : BitVec 32 := Scalar.addi c0_i32_99 c64_i32_100
  let c1_i32_101 : BitVec 32 := 1#32
  ⟨c0_i32_99, v123, c1_i32_101⟩
def k0_dev6 (d0 : Dev nD) : Nat :=
  let c0_i32_112 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_111 : BitVec 32 := 2#32
  let v144 : BitVec 32 := Scalar.muli v2 c2_i32_111
  let v145 : BitVec 32 := Scalar.addi c0_i32_112 v144
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_113 : BitVec 32 := 1#32
  let v146 : BitVec 32 := Scalar.muli v6 c1_i32_113
  let v147 : BitVec 32 := Scalar.addi v145 v146
  v147.toNat
def k0_dev7 (d0 : Dev nD) : Nat :=
  let c0_i32_138 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_137 : BitVec 32 := 2#32
  let v172 : BitVec 32 := Scalar.muli v7 c2_i32_137
  let v173 : BitVec 32 := Scalar.addi c0_i32_138 v172
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_139 : BitVec 32 := 1#32
  let v174 : BitVec 32 := Scalar.muli v5 c1_i32_139
  let v175 : BitVec 32 := Scalar.addi v173 v174
  v175.toNat
def k0_off23 (d0 : Dev nD) (c0_i32_155 : BitVec 32) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v10 : BitVec 32 := Scalar.subi c1_i32_4 v2
  let c512_i32_5 : BitVec 32 := 512#32
  let v11 : BitVec 32 := Scalar.muli v10 c512_i32_5
  let v192 : BitVec 32 := Scalar.addi v11 c0_i32_155
  let v193 : Index := Scalar.indexCast v192
  let c0_156 : Index := 0#32
  ![v193.toNat, 0]
@[reducible] def k0_t8_loop : Scf.Loop 32 :=
  let c0_i32_159 : BitVec 32 := 0#32
  let c32_i32_160 : BitVec 32 := 32#32
  let v197 : BitVec 32 := Scalar.addi c0_i32_159 c32_i32_160
  let c1_i32_161 : BitVec 32 := 1#32
  ⟨c0_i32_159, v197, c1_i32_161⟩
def k0_off24 (d0 : Dev nD) (k0_t8 : Fin k0_t8_loop.trips) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_157 : BitVec 32 := 256#32
  let v195 : BitVec 32 := Scalar.muli v2 c256_i32_157
  let c128_i32_158 : BitVec 32 := 128#32
  let v196 : BitVec 32 := Scalar.addi v195 c128_i32_158
  let c0_i32_159 : BitVec 32 := 0#32
  let c1_i32_161 : BitVec 32 := 1#32
  let arg14 : BitVec 32 := Scf.iv c0_i32_159 c1_i32_161 k0_t8
  let v685 : BitVec 32 := Scalar.addi v196 arg14
  let v686 : Index := Scalar.indexCast v685
  ![v686.toNat]
def k0_off25 (k0_t8 : Fin k0_t8_loop.trips) : Fin 2 → Nat :=
  let c256_i32_630 : BitVec 32 := 256#32
  let c2_i32_629 : BitVec 32 := 2#32
  let c0_i32_159 : BitVec 32 := 0#32
  let c1_i32_161 : BitVec 32 := 1#32
  let arg14 : BitVec 32 := Scf.iv c0_i32_159 c1_i32_161 k0_t8
  let v690 : BitVec 32 := Scalar.muli c2_i32_629 arg14
  let v691 : BitVec 32 := Scalar.addi c256_i32_630 v690
  let c0_i32_632 : BitVec 32 := 0#32
  ![v691.toNat, 0]
def k0_off26 (v687 : BitVec 32) : Fin 2 → Nat :=
  let c65535_i32 : BitVec 32 := 65535#32
  let v688 : BitVec 32 := Scalar.andi v687 c65535_i32
  let c0_i32_633 : BitVec 32 := 0#32
  ![v688.toNat, 0]

def k0_off27 (k0_t8 : Fin k0_t8_loop.trips) : Fin 2 → Nat :=
  let c256_i32_630 : BitVec 32 := 256#32
  let c2_i32_629 : BitVec 32 := 2#32
  let c0_i32_159 : BitVec 32 := 0#32
  let c1_i32_161 : BitVec 32 := 1#32
  let arg14 : BitVec 32 := Scf.iv c0_i32_159 c1_i32_161 k0_t8
  let v690 : BitVec 32 := Scalar.muli c2_i32_629 arg14
  let v691 : BitVec 32 := Scalar.addi c256_i32_630 v690
  let c1_i32_634 : BitVec 32 := 1#32
  let v696 : BitVec 32 := Scalar.addi v691 c1_i32_634
  let c0_i32_636 : BitVec 32 := 0#32
  ![v696.toNat, 0]
def k0_off28 (v687 : BitVec 32) : Fin 2 → Nat :=
  let c16_i32 : BitVec 32 := 16#32
  let v689 : BitVec 32 := Scalar.shrsi v687 c16_i32
  let c0_i32_637 : BitVec 32 := 0#32
  ![v689.toNat, 0]

def k0_chk5 (v687 : BitVec 32) : Prop :=
  (∀ a, (k0_off26 v687) a + S1x1024.size a ≤ S8192x1024.size a) ∧
  (∀ a, (k0_off28 v687) a + S1x1024.size a ≤ S8192x1024.size a)
theorem k0_off26_inb : ∀ (v687 : BitVec 32) (k0_hw5 : k0_chk5 v687), ∀ a, (k0_off26 v687) a + S1x1024.size a ≤ S8192x1024.size a := fun v687 k0_hw5 => k0_hw5.1
theorem k0_off28_inb : ∀ (v687 : BitVec 32) (k0_hw5 : k0_chk5 v687), ∀ a, (k0_off28 v687) a + S1x1024.size a ≤ S8192x1024.size a := fun v687 k0_hw5 => k0_hw5.2

@[reducible] def k0_t9_loop : Scf.Loop 32 :=
  let c0_i32_163 : BitVec 32 := 0#32
  let c64_i32_164 : BitVec 32 := 64#32
  let v198 : BitVec 32 := Scalar.addi c0_i32_163 c64_i32_164
  let c1_i32_165 : BitVec 32 := 1#32
  ⟨c0_i32_163, v198, c1_i32_165⟩
def k0_dev8 (d0 : Dev nD) : Nat :=
  let c0_i32_175 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_174 : BitVec 32 := 2#32
  let v219 : BitVec 32 := Scalar.muli v2 c2_i32_174
  let v220 : BitVec 32 := Scalar.addi c0_i32_175 v219
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_176 : BitVec 32 := 1#32
  let v221 : BitVec 32 := Scalar.muli v6 c1_i32_176
  let v222 : BitVec 32 := Scalar.addi v220 v221
  v222.toNat
def k0_dev9 (d0 : Dev nD) : Nat :=
  let c0_i32_201 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_200 : BitVec 32 := 2#32
  let v247 : BitVec 32 := Scalar.muli v7 c2_i32_200
  let v248 : BitVec 32 := Scalar.addi c0_i32_201 v247
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_202 : BitVec 32 := 1#32
  let v249 : BitVec 32 := Scalar.muli v5 c1_i32_202
  let v250 : BitVec 32 := Scalar.addi v248 v249
  v250.toNat
@[reducible] def k0_t10_loop : Scf.Loop 32 :=
  let c0_i32_221 : BitVec 32 := 0#32
  let c32_i32_222 : BitVec 32 := 32#32
  let v272 : BitVec 32 := Scalar.addi c0_i32_221 c32_i32_222
  let c1_i32_223 : BitVec 32 := 1#32
  ⟨c0_i32_221, v272, c1_i32_223⟩
def k0_off29 (d0 : Dev nD) (k0_t10 : Fin k0_t10_loop.trips) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_220 : BitVec 32 := 256#32
  let v270 : BitVec 32 := Scalar.muli v2 c256_i32_220
  let c160_i32 : BitVec 32 := 160#32
  let v271 : BitVec 32 := Scalar.addi v270 c160_i32
  let c0_i32_221 : BitVec 32 := 0#32
  let c1_i32_223 : BitVec 32 := 1#32
  let arg14 : BitVec 32 := Scf.iv c0_i32_221 c1_i32_223 k0_t10
  let v685 : BitVec 32 := Scalar.addi v271 arg14
  let v686 : Index := Scalar.indexCast v685
  ![v686.toNat]
def k0_off30 (k0_t10 : Fin k0_t10_loop.trips) : Fin 2 → Nat :=
  let c320_i32_630 : BitVec 32 := 320#32
  let c2_i32_629 : BitVec 32 := 2#32
  let c0_i32_221 : BitVec 32 := 0#32
  let c1_i32_223 : BitVec 32 := 1#32
  let arg14 : BitVec 32 := Scf.iv c0_i32_221 c1_i32_223 k0_t10
  let v690 : BitVec 32 := Scalar.muli c2_i32_629 arg14
  let v691 : BitVec 32 := Scalar.addi c320_i32_630 v690
  let c0_i32_632 : BitVec 32 := 0#32
  ![v691.toNat, 0]
def k0_off31 (v687 : BitVec 32) : Fin 2 → Nat :=
  let c65535_i32 : BitVec 32 := 65535#32
  let v688 : BitVec 32 := Scalar.andi v687 c65535_i32
  let c0_i32_633 : BitVec 32 := 0#32
  ![v688.toNat, 0]

def k0_off32 (k0_t10 : Fin k0_t10_loop.trips) : Fin 2 → Nat :=
  let c320_i32_630 : BitVec 32 := 320#32
  let c2_i32_629 : BitVec 32 := 2#32
  let c0_i32_221 : BitVec 32 := 0#32
  let c1_i32_223 : BitVec 32 := 1#32
  let arg14 : BitVec 32 := Scf.iv c0_i32_221 c1_i32_223 k0_t10
  let v690 : BitVec 32 := Scalar.muli c2_i32_629 arg14
  let v691 : BitVec 32 := Scalar.addi c320_i32_630 v690
  let c1_i32_634 : BitVec 32 := 1#32
  let v696 : BitVec 32 := Scalar.addi v691 c1_i32_634
  let c0_i32_636 : BitVec 32 := 0#32
  ![v696.toNat, 0]
def k0_off33 (v687 : BitVec 32) : Fin 2 → Nat :=
  let c16_i32 : BitVec 32 := 16#32
  let v689 : BitVec 32 := Scalar.shrsi v687 c16_i32
  let c0_i32_637 : BitVec 32 := 0#32
  ![v689.toNat, 0]

def k0_chk6 (v687 : BitVec 32) : Prop :=
  (∀ a, (k0_off31 v687) a + S1x1024.size a ≤ S8192x1024.size a) ∧
  (∀ a, (k0_off33 v687) a + S1x1024.size a ≤ S8192x1024.size a)
theorem k0_off31_inb : ∀ (v687 : BitVec 32) (k0_hw6 : k0_chk6 v687), ∀ a, (k0_off31 v687) a + S1x1024.size a ≤ S8192x1024.size a := fun v687 k0_hw6 => k0_hw6.1
theorem k0_off33_inb : ∀ (v687 : BitVec 32) (k0_hw6 : k0_chk6 v687), ∀ a, (k0_off33 v687) a + S1x1024.size a ≤ S8192x1024.size a := fun v687 k0_hw6 => k0_hw6.2

@[reducible] def k0_t11_loop : Scf.Loop 32 :=
  let c0_i32_225 : BitVec 32 := 0#32
  let c64_i32_226 : BitVec 32 := 64#32
  let v273 : BitVec 32 := Scalar.addi c0_i32_225 c64_i32_226
  let c1_i32_227 : BitVec 32 := 1#32
  ⟨c0_i32_225, v273, c1_i32_227⟩
def k0_dev10 (d0 : Dev nD) : Nat :=
  let c0_i32_238 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_237 : BitVec 32 := 2#32
  let v294 : BitVec 32 := Scalar.muli v2 c2_i32_237
  let v295 : BitVec 32 := Scalar.addi c0_i32_238 v294
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_239 : BitVec 32 := 1#32
  let v296 : BitVec 32 := Scalar.muli v6 c1_i32_239
  let v297 : BitVec 32 := Scalar.addi v295 v296
  v297.toNat
def k0_dev11 (d0 : Dev nD) : Nat :=
  let c0_i32_264 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_263 : BitVec 32 := 2#32
  let v322 : BitVec 32 := Scalar.muli v7 c2_i32_263
  let v323 : BitVec 32 := Scalar.addi c0_i32_264 v322
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_265 : BitVec 32 := 1#32
  let v324 : BitVec 32 := Scalar.muli v5 c1_i32_265
  let v325 : BitVec 32 := Scalar.addi v323 v324
  v325.toNat
@[reducible] def k0_t12_loop : Scf.Loop 32 :=
  let c0_i32_285 : BitVec 32 := 0#32
  let c32_i32_286 : BitVec 32 := 32#32
  let v347 : BitVec 32 := Scalar.addi c0_i32_285 c32_i32_286
  let c1_i32_287 : BitVec 32 := 1#32
  ⟨c0_i32_285, v347, c1_i32_287⟩
def k0_off34 (d0 : Dev nD) (k0_t12 : Fin k0_t12_loop.trips) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_283 : BitVec 32 := 256#32
  let v345 : BitVec 32 := Scalar.muli v2 c256_i32_283
  let c192_i32_284 : BitVec 32 := 192#32
  let v346 : BitVec 32 := Scalar.addi v345 c192_i32_284
  let c0_i32_285 : BitVec 32 := 0#32
  let c1_i32_287 : BitVec 32 := 1#32
  let arg14 : BitVec 32 := Scf.iv c0_i32_285 c1_i32_287 k0_t12
  let v685 : BitVec 32 := Scalar.addi v346 arg14
  let v686 : Index := Scalar.indexCast v685
  ![v686.toNat]
def k0_off35 (k0_t12 : Fin k0_t12_loop.trips) : Fin 2 → Nat :=
  let c384_i32_630 : BitVec 32 := 384#32
  let c2_i32_629 : BitVec 32 := 2#32
  let c0_i32_285 : BitVec 32 := 0#32
  let c1_i32_287 : BitVec 32 := 1#32
  let arg14 : BitVec 32 := Scf.iv c0_i32_285 c1_i32_287 k0_t12
  let v690 : BitVec 32 := Scalar.muli c2_i32_629 arg14
  let v691 : BitVec 32 := Scalar.addi c384_i32_630 v690
  let c0_i32_632 : BitVec 32 := 0#32
  ![v691.toNat, 0]
def k0_off36 (v687 : BitVec 32) : Fin 2 → Nat :=
  let c65535_i32 : BitVec 32 := 65535#32
  let v688 : BitVec 32 := Scalar.andi v687 c65535_i32
  let c0_i32_633 : BitVec 32 := 0#32
  ![v688.toNat, 0]

def k0_off37 (k0_t12 : Fin k0_t12_loop.trips) : Fin 2 → Nat :=
  let c384_i32_630 : BitVec 32 := 384#32
  let c2_i32_629 : BitVec 32 := 2#32
  let c0_i32_285 : BitVec 32 := 0#32
  let c1_i32_287 : BitVec 32 := 1#32
  let arg14 : BitVec 32 := Scf.iv c0_i32_285 c1_i32_287 k0_t12
  let v690 : BitVec 32 := Scalar.muli c2_i32_629 arg14
  let v691 : BitVec 32 := Scalar.addi c384_i32_630 v690
  let c1_i32_634 : BitVec 32 := 1#32
  let v696 : BitVec 32 := Scalar.addi v691 c1_i32_634
  let c0_i32_636 : BitVec 32 := 0#32
  ![v696.toNat, 0]
def k0_off38 (v687 : BitVec 32) : Fin 2 → Nat :=
  let c16_i32 : BitVec 32 := 16#32
  let v689 : BitVec 32 := Scalar.shrsi v687 c16_i32
  let c0_i32_637 : BitVec 32 := 0#32
  ![v689.toNat, 0]

def k0_chk7 (v687 : BitVec 32) : Prop :=
  (∀ a, (k0_off36 v687) a + S1x1024.size a ≤ S8192x1024.size a) ∧
  (∀ a, (k0_off38 v687) a + S1x1024.size a ≤ S8192x1024.size a)
theorem k0_off36_inb : ∀ (v687 : BitVec 32) (k0_hw7 : k0_chk7 v687), ∀ a, (k0_off36 v687) a + S1x1024.size a ≤ S8192x1024.size a := fun v687 k0_hw7 => k0_hw7.1
theorem k0_off38_inb : ∀ (v687 : BitVec 32) (k0_hw7 : k0_chk7 v687), ∀ a, (k0_off38 v687) a + S1x1024.size a ≤ S8192x1024.size a := fun v687 k0_hw7 => k0_hw7.2

@[reducible] def k0_t13_loop : Scf.Loop 32 :=
  let c0_i32_289 : BitVec 32 := 0#32
  let c64_i32_290 : BitVec 32 := 64#32
  let v348 : BitVec 32 := Scalar.addi c0_i32_289 c64_i32_290
  let c1_i32_291 : BitVec 32 := 1#32
  ⟨c0_i32_289, v348, c1_i32_291⟩
def k0_dev12 (d0 : Dev nD) : Nat :=
  let c0_i32_301 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_300 : BitVec 32 := 2#32
  let v369 : BitVec 32 := Scalar.muli v2 c2_i32_300
  let v370 : BitVec 32 := Scalar.addi c0_i32_301 v369
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_302 : BitVec 32 := 1#32
  let v371 : BitVec 32 := Scalar.muli v6 c1_i32_302
  let v372 : BitVec 32 := Scalar.addi v370 v371
  v372.toNat
def k0_dev13 (d0 : Dev nD) : Nat :=
  let c0_i32_327 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_326 : BitVec 32 := 2#32
  let v397 : BitVec 32 := Scalar.muli v7 c2_i32_326
  let v398 : BitVec 32 := Scalar.addi c0_i32_327 v397
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_328 : BitVec 32 := 1#32
  let v399 : BitVec 32 := Scalar.muli v5 c1_i32_328
  let v400 : BitVec 32 := Scalar.addi v398 v399
  v400.toNat
@[reducible] def k0_t14_loop : Scf.Loop 32 :=
  let c0_i32_347 : BitVec 32 := 0#32
  let c32_i32_348 : BitVec 32 := 32#32
  let v422 : BitVec 32 := Scalar.addi c0_i32_347 c32_i32_348
  let c1_i32_349 : BitVec 32 := 1#32
  ⟨c0_i32_347, v422, c1_i32_349⟩
def k0_off39 (d0 : Dev nD) (k0_t14 : Fin k0_t14_loop.trips) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_346 : BitVec 32 := 256#32
  let v420 : BitVec 32 := Scalar.muli v2 c256_i32_346
  let c224_i32 : BitVec 32 := 224#32
  let v421 : BitVec 32 := Scalar.addi v420 c224_i32
  let c0_i32_347 : BitVec 32 := 0#32
  let c1_i32_349 : BitVec 32 := 1#32
  let arg14 : BitVec 32 := Scf.iv c0_i32_347 c1_i32_349 k0_t14
  let v685 : BitVec 32 := Scalar.addi v421 arg14
  let v686 : Index := Scalar.indexCast v685
  ![v686.toNat]
def k0_off40 (k0_t14 : Fin k0_t14_loop.trips) : Fin 2 → Nat :=
  let c448_i32_630 : BitVec 32 := 448#32
  let c2_i32_629 : BitVec 32 := 2#32
  let c0_i32_347 : BitVec 32 := 0#32
  let c1_i32_349 : BitVec 32 := 1#32
  let arg14 : BitVec 32 := Scf.iv c0_i32_347 c1_i32_349 k0_t14
  let v690 : BitVec 32 := Scalar.muli c2_i32_629 arg14
  let v691 : BitVec 32 := Scalar.addi c448_i32_630 v690
  let c0_i32_632 : BitVec 32 := 0#32
  ![v691.toNat, 0]
def k0_off41 (v687 : BitVec 32) : Fin 2 → Nat :=
  let c65535_i32 : BitVec 32 := 65535#32
  let v688 : BitVec 32 := Scalar.andi v687 c65535_i32
  let c0_i32_633 : BitVec 32 := 0#32
  ![v688.toNat, 0]

def k0_off42 (k0_t14 : Fin k0_t14_loop.trips) : Fin 2 → Nat :=
  let c448_i32_630 : BitVec 32 := 448#32
  let c2_i32_629 : BitVec 32 := 2#32
  let c0_i32_347 : BitVec 32 := 0#32
  let c1_i32_349 : BitVec 32 := 1#32
  let arg14 : BitVec 32 := Scf.iv c0_i32_347 c1_i32_349 k0_t14
  let v690 : BitVec 32 := Scalar.muli c2_i32_629 arg14
  let v691 : BitVec 32 := Scalar.addi c448_i32_630 v690
  let c1_i32_634 : BitVec 32 := 1#32
  let v696 : BitVec 32 := Scalar.addi v691 c1_i32_634
  let c0_i32_636 : BitVec 32 := 0#32
  ![v696.toNat, 0]
def k0_off43 (v687 : BitVec 32) : Fin 2 → Nat :=
  let c16_i32 : BitVec 32 := 16#32
  let v689 : BitVec 32 := Scalar.shrsi v687 c16_i32
  let c0_i32_637 : BitVec 32 := 0#32
  ![v689.toNat, 0]

def k0_chk8 (v687 : BitVec 32) : Prop :=
  (∀ a, (k0_off41 v687) a + S1x1024.size a ≤ S8192x1024.size a) ∧
  (∀ a, (k0_off43 v687) a + S1x1024.size a ≤ S8192x1024.size a)
theorem k0_off41_inb : ∀ (v687 : BitVec 32) (k0_hw8 : k0_chk8 v687), ∀ a, (k0_off41 v687) a + S1x1024.size a ≤ S8192x1024.size a := fun v687 k0_hw8 => k0_hw8.1
theorem k0_off43_inb : ∀ (v687 : BitVec 32) (k0_hw8 : k0_chk8 v687), ∀ a, (k0_off43 v687) a + S1x1024.size a ≤ S8192x1024.size a := fun v687 k0_hw8 => k0_hw8.2

@[reducible] def k0_t15_loop : Scf.Loop 32 :=
  let c0_i32_351 : BitVec 32 := 0#32
  let c64_i32_352 : BitVec 32 := 64#32
  let v423 : BitVec 32 := Scalar.addi c0_i32_351 c64_i32_352
  let c1_i32_353 : BitVec 32 := 1#32
  ⟨c0_i32_351, v423, c1_i32_353⟩
def k0_dev14 (d0 : Dev nD) : Nat :=
  let c0_i32_363 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_362 : BitVec 32 := 2#32
  let v444 : BitVec 32 := Scalar.muli v2 c2_i32_362
  let v445 : BitVec 32 := Scalar.addi c0_i32_363 v444
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_364 : BitVec 32 := 1#32
  let v446 : BitVec 32 := Scalar.muli v6 c1_i32_364
  let v447 : BitVec 32 := Scalar.addi v445 v446
  v447.toNat
def k0_dev15 (d0 : Dev nD) : Nat :=
  let c0_i32_389 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_388 : BitVec 32 := 2#32
  let v472 : BitVec 32 := Scalar.muli v7 c2_i32_388
  let v473 : BitVec 32 := Scalar.addi c0_i32_389 v472
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_390 : BitVec 32 := 1#32
  let v474 : BitVec 32 := Scalar.muli v5 c1_i32_390
  let v475 : BitVec 32 := Scalar.addi v473 v474
  v475.toNat
@[reducible] def k0_t16_loop : Scf.Loop 32 :=
  let c0_i32_408 : BitVec 32 := 0#32
  let c64_i32_409 : BitVec 32 := 64#32
  let v495 : BitVec 32 := Scalar.addi c0_i32_408 c64_i32_409
  let c1_i32_410 : BitVec 32 := 1#32
  ⟨c0_i32_408, v495, c1_i32_410⟩
def k0_dev16 (d0 : Dev nD) : Nat :=
  let c0_i32_420 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_419 : BitVec 32 := 2#32
  let v516 : BitVec 32 := Scalar.muli v2 c2_i32_419
  let v517 : BitVec 32 := Scalar.addi c0_i32_420 v516
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_421 : BitVec 32 := 1#32
  let v518 : BitVec 32 := Scalar.muli v6 c1_i32_421
  let v519 : BitVec 32 := Scalar.addi v517 v518
  v519.toNat
def k0_dev17 (d0 : Dev nD) : Nat :=
  let c0_i32_446 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_445 : BitVec 32 := 2#32
  let v544 : BitVec 32 := Scalar.muli v7 c2_i32_445
  let v545 : BitVec 32 := Scalar.addi c0_i32_446 v544
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_447 : BitVec 32 := 1#32
  let v546 : BitVec 32 := Scalar.muli v5 c1_i32_447
  let v547 : BitVec 32 := Scalar.addi v545 v546
  v547.toNat
def k0_dev18 (d0 : Dev nD) : Nat :=
  let c0_i32_485 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_484 : BitVec 32 := 2#32
  let v585 : BitVec 32 := Scalar.muli v7 c2_i32_484
  let v586 : BitVec 32 := Scalar.addi c0_i32_485 v585
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_486 : BitVec 32 := 1#32
  let v587 : BitVec 32 := Scalar.muli v5 c1_i32_486
  let v588 : BitVec 32 := Scalar.addi v586 v587
  v588.toNat
abbrev stage0_0 : Fin 1 → Memref sig .tc .smem S512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024 : Shape := ⟨1, ![1024]⟩
abbrev S16384x1024 : Shape := ⟨2, ![16384, 1024]⟩
abbrev S_ : Shape := ⟨0, ![]⟩
abbrev S1024x1 : Shape := ⟨2, ![1024, 1]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024, .i32⟩
  | .hbm, ⟨1, _⟩ => ⟨S16384x1024, .f32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1024x1024, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Phases.lean ====
/- The kernel's body written again by what it does to one chunk of 64 rows: a phase per action
   (issue the row copies, drain them, mask and send along y, add and send along x, store what came along x,
   wait for the sends), each a program in the chunk's number. `body_eq` says that the printed body is their
   sequence: it is cut at other places, and its eight copies of each phase are spelled out. -/
module

public import proofs.«01_k».proof.Proof.Gen.KernelIdeal.Skeleton
public import proofs.«01_k».proof.Proof.Gen.KernelIdeal.Points

@[expose] public section

noncomputable section

namespace Cert.Proof.Lookup

open Idealize.ShloMosaic Idealize.ShloMosaic.TcCoe Idealize.SL.Sem
open Cert.KernelIdeal Cert.KernelIdeal.Gen

variable {F : FTy → Type} [FloatOps F]

/-! ## The buffers -/

/-- The packed local indices, two to a word. -/
abbrev mPk : Memref sig .tc .smem S512 .i32 := Memref.whole cc0_stg0_0
/-- The ids as a column. -/
abbrev mIds : Memref sig .tc .vmem S1024x1 .i32 := Memref.whole cc0_stg1_0
/-- This device's half of the table. -/
abbrev mE : Memref sig .tc .hbm S8192x1024 .f32 := Memref.whole main_arg1
/-- The result. -/
abbrev mOut : Memref sig .tc .vmem S1024x1024 .f32 := Memref.whole cc0_stg2_0
/-- The gathered rows. -/
abbrev mG : Memref sig .tc .vmem S512x1024 .f32 := Memref.whole cc0_scratch0
/-- What goes to the neighbour along y. -/
abbrev mYs : Memref sig .tc .vmem S512x1024 .bf16 := Memref.whole cc0_scratch1
/-- What comes from the neighbour along y. -/
abbrev mYr : Memref sig .tc .vmem S512x1024 .bf16 := Memref.whole cc0_scratch2
/-- What goes to the neighbour along x. -/
abbrev mXs : Memref sig .tc .vmem S512x1024 .bf16 := Memref.whole cc0_scratch3
/-- What comes from the neighbour along x. -/
abbrev mXr : Memref sig .tc .vmem S512x1024 .bf16 := Memref.whole cc0_scratch4

/-! ## The offsets of chunk `k` -/

theorem chunk_inb : ∀ k : Fin 8, ∀ a, (![64 * k.val, 0] : Fin 2 → Nat) a + S64x1024.size a ≤ S512x1024.size a := by decide
theorem sem_inb : ∀ k : Fin 8, ∀ a, (![k.val] : Fin 1 → Nat) a + S1.size a ≤ S8.size a := by decide

theorem chunk_packed : ∀ k : Fin 8, (Rect.unit (s := S512x1024) ![64 * k.val, 0] S64x1024.size (chunk_inb k)).PackedRows (EltTy.packing .bf16)
  | 0 => packedbf16_S512x1024_S64x1024_0_0 | 1 => packedbf16_S512x1024_S64x1024_64_0
  | 2 => packedbf16_S512x1024_S64x1024_128_0 | 3 => packedbf16_S512x1024_S64x1024_192_0
  | 4 => packedbf16_S512x1024_S64x1024_256_0 | 5 => packedbf16_S512x1024_S64x1024_320_0
  | 6 => packedbf16_S512x1024_S64x1024_384_0 | 7 => packedbf16_S512x1024_S64x1024_448_0
theorem chunk_words : ∀ k : Fin 8, (Rect.unit (s := S512x1024) ![64 * k.val, 0] S64x1024.size (chunk_inb k)).WholeWords (EltTy.packing .bf16)
  | 0 => wordsbf16_S512x1024_S64x1024_0_0 | 1 => wordsbf16_S512x1024_S64x1024_64_0
  | 2 => wordsbf16_S512x1024_S64x1024_128_0 | 3 => wordsbf16_S512x1024_S64x1024_192_0
  | 4 => wordsbf16_S512x1024_S64x1024_256_0 | 5 => wordsbf16_S512x1024_S64x1024_320_0
  | 6 => wordsbf16_S512x1024_S64x1024_384_0 | 7 => wordsbf16_S512x1024_S64x1024_448_0

/-- Chunk `k`'s rows of a buffer of 512. -/
abbrev rc (k : Fin 8) : Rect S512x1024 := Rect.unit (s := S512x1024) ![64 * k.val, 0] S64x1024.size (chunk_inb k)
/-- Chunk `k`'s rows of a buffer of 512, as a memref. -/
abbrev chunk {e : EltTy} (b : Memref sig .tc .vmem S512x1024 e) (k : Fin 8) : Memref sig .tc .vmem S64x1024 e :=
  b.slice (rc k) (fun _ => rfl)
/-- Cell `k` of an array of eight semaphores. -/
abbrev cell (a : DmaSems sig S8) (k : Fin 8) : DmaSem sig :=
  ((a.slice (Rect.unit (s := S8) ![k.val] S1.size (sem_inb k))).squeeze S_ squeezes_S1_S_).sem

/-- The word that trip `t` of chunk `k` reads. -/
def offW (d0 : Dev nD) (k : Fin 8) (t : Fin k0_t1_loop.trips) : Fin 1 → Nat :=
  ![(Scalar.indexCast (Scalar.addi (Scalar.addi (Scalar.muli (Scalar.remsi (Scalar.divsi (Dev.word d0) 2#32) 2#32) 256#32) (BitVec.ofNat 32 (32 * k.val)))
    (Scf.iv 0#32 1#32 t)) : Index).toNat]
/-- The gathered row of its low half. -/
def offLo (k : Fin 8) (t : Fin k0_t1_loop.trips) : Fin 2 → Nat :=
  ![(Scalar.addi (BitVec.ofNat 32 (64 * k.val)) (Scalar.muli 2#32 (Scf.iv 0#32 1#32 t))).toNat, 0]
/-- The gathered row of its high half. -/
def offHi (k : Fin 8) (t : Fin k0_t1_loop.trips) : Fin 2 → Nat :=
  ![(Scalar.addi (Scalar.addi (BitVec.ofNat 32 (64 * k.val)) (Scalar.muli 2#32 (Scf.iv 0#32 1#32 t))) 1#32).toNat, 0]

theorem offW_inb : ∀ (d0 : Dev nD) (k : Fin 8) (t : Fin k0_t1_loop.trips), ∀ a, (offW d0 k t) a + S1.size a ≤ S512.size a
  | d, 0, t => k0_off1_inb d t | d, 1, t => k0_off6_inb d t | d, 2, t => k0_off12_inb d t | d, 3, t => k0_off18_inb d t
  | d, 4, t => k0_off24_inb d t | d, 5, t => k0_off29_inb d t | d, 6, t => k0_off34_inb d t | d, 7, t => k0_off39_inb d t
theorem offLo_inb : ∀ (k : Fin 8) (t : Fin k0_t1_loop.trips), ∀ a, (offLo k t) a + S1x1024.size a ≤ S512x1024.size a
  | 0, t => k0_off2_inb t | 1, t => k0_off7_inb t | 2, t => k0_off13_inb t | 3, t => k0_off19_inb t
  | 4, t => k0_off25_inb t | 5, t => k0_off30_inb t | 6, t => k0_off35_inb t | 7, t => k0_off40_inb t
theorem offHi_inb : ∀ (k : Fin 8) (t : Fin k0_t1_loop.trips), ∀ a, (offHi k t) a + S1x1024.size a ≤ S512x1024.size a
  | 0, t => k0_off4_inb t | 1, t => k0_off9_inb t | 2, t => k0_off15_inb t | 3, t => k0_off21_inb t
  | 4, t => k0_off27_inb t | 5, t => k0_off32_inb t | 6, t => k0_off37_inb t | 7, t => k0_off42_inb t

/-- The neighbour along y, as the kernel computes it. -/
abbrev devY (d : Dev nD) : Dev nD := ⟨k0_dev1 d, k0_dev1_lt d⟩
/-- The neighbour along x. -/
abbrev devX (d : Dev nD) : Dev nD := ⟨k0_dev2 d, k0_dev2_lt d⟩
/-- The first id of this device's half of the table. -/
abbrev baseW (d : Dev nD) : BitVec 32 := Scalar.muli (Scalar.remsi (Scalar.divsi (Dev.word d) 1#32) 2#32) 8192#32

/-- The barrier's semaphore. -/
abbrev bar : Sems sig S_ := SemArray.scalar (sig.barrier 0 rfl)

/-! ## The phases -/

/-- A program of one of the kernel's cores. -/
abbrev KProg (F : FTy → Type) (α : Type) := Prog (TpuEff nD τ sig (Elt F) Λ₀ .tc) α

/-- Meet both neighbours: signal each, wait for both. -/
def meetP (d : Dev nD) : KProg F PUnit := do
  semSignalWord (devY d) bar.sem 1#32
  semSignalWord (devX d) bar.sem 1#32
  semWaitWord bar.sem 2#32

/-- One trip of the issue: read a word, copy the two rows that it names. -/
def issueTrip (d : Dev nD) (k : Fin 8) : Fin k0_t1_loop.trips → Unit → KProg F Unit := fun t _ => do
  let v : Elt F .i32 ← smemLoad mPk (Rect.unit (s := S512) (offW d k t) S1.size (offW_inb d k t)) numel1_S1 rfl
  have hw : k0_chk1 v := (← Prog.lift (TpuEff.assume (k0_chk1 v) (k0_chk1.dec v))).down
  Prog.lift (.enqueueDma (mE.slice (Rect.unit (s := S8192x1024) (k0_off3 v) S1x1024.size (k0_off3_inb v hw)) (fun _ => rfl))
    (.here (mG.slice (Rect.unit (s := S512x1024) (offLo k t) S1x1024.size (offLo_inb k t)) (fun _ => rfl)))
    (.dma (cell cc0_scratch5 k)) (View.wordExact_bits rfl) (View.wordExact_bits rfl) ⟨Or.inl rfl, trivial⟩)
  Prog.lift (.enqueueDma (mE.slice (Rect.unit (s := S8192x1024) (k0_off5 v) S1x1024.size (k0_off5_inb v hw)) (fun _ => rfl))
    (.here (mG.slice (Rect.unit (s := S512x1024) (offHi k t) S1x1024.size (offHi_inb k t)) (fun _ => rfl)))
    (.dma (cell cc0_scratch5 k)) (View.wordExact_bits rfl) (View.wordExact_bits rfl) ⟨Or.inl rfl, trivial⟩)
  pure ⟨⟩

/-- Issue chunk `k`'s 64 row copies. -/
def issueP (d : Dev nD) (k : Fin 8) : KProg F Unit := Scf.Loop.for k0_t1_loop k0_t1_ok ⟨⟩ (issueTrip d k)

/-- One trip of the drain: wait for one row's worth on the chunk's semaphore. -/
def drainTrip (k : Fin 8) : Fin k0_t3_loop.trips → Unit → KProg F Unit := fun _ _ => do
  Prog.lift (.waitDma2 (cell cc0_scratch5 k)
    (mE.slice (Rect.unit (s := S8192x1024) ![0, 0] S1x1024.size inb_S8192x1024_S1x1024_0_0) (fun _ => rfl))
    (mG.slice (Rect.unit (s := S512x1024) ![0, 0] S1x1024.size inb_S512x1024_S1x1024_0_0) (fun _ => rfl))
    (View.wordExact_bits rfl) (View.wordExact_bits rfl))
  pure ⟨⟩

/-- Drain chunk `k`'s 64 row copies. -/
def drainP (k : Fin 8) : KProg F Unit := Scf.Loop.for k0_t3_loop k0_t3_ok ⟨⟩ (drainTrip k)

/-- Mask chunk `k`'s rows by the ids in this device's half and send them along y. -/
def sendP (d : Dev nD) (k : Fin 8) : KProg F PUnit := do
  let ids : Vec F S64x1 .i32 ← Prog.lift (.load mIds (Rect.unit (s := S1024x1) (k0_off11 d (BitVec.ofNat 32 (64 * k.val))) S64x1.size (k0_off11_inb d k)).toLoadRect (View.loadsAt_vmem h_S64x1))
  let g : Vec F S64x1024 .f32 ← Prog.lift (.load mG (rc k).toLoadRect (View.loadsAt_vmem h_S64x1024))
  let _ : Vec F S64x1024 .bf16 ← Prog.lift (.load mYs (rc k).toLoadRect (View.loadsAt_vmem h_S64x1024))
  Prog.lift (.store mYs (rc k) (k0_pay1 (baseW d) ids g) Finset.univ (View.stores_vmem h_S64x1024 ((Memref.isWhole_whole cc0_scratch1).storeExact_slice rfl _ (chunk_packed k)) (fun _ => rfl)) (.inl rfl))
  Prog.lift (.enqueueDma (chunk mYs k) (.remote (Dev.tc (devY d)) (chunk mYr k) (.dma (cell cc0_scratch6 k))) (.dma (cell cc0_scratch7 k))
    ((Memref.isWhole_whole cc0_scratch1).wordExact_slice rfl _ (chunk_words k)) ((Memref.isWhole_whole cc0_scratch2).wordExact_slice rfl _ (chunk_words k)) ⟨⟨rfl, Or.inl rfl⟩, trivial⟩)

/-- Wait for the neighbour's chunk `k` along y, add it to this device's, store the sum and send it along x. -/
def procYP (d : Dev nD) (k : Fin 8) : KProg F PUnit := do
  Prog.lift (.waitDma2 (cell cc0_scratch7 k) (chunk mYs k) (chunk mYr k)
    ((Memref.isWhole_whole cc0_scratch1).wordExact_slice rfl _ (chunk_words k)) ((Memref.isWhole_whole cc0_scratch2).wordExact_slice rfl _ (chunk_words k)))
  let a : Vec F S64x1024 .bf16 ← Prog.lift (.load mYs (rc k).toLoadRect (View.loadsAt_vmem h_S64x1024))
  let b : Vec F S64x1024 .bf16 ← Prog.lift (.load mYr (rc k).toLoadRect (View.loadsAt_vmem h_S64x1024))
  let _ : Vec F S64x1024 .bf16 ← Prog.lift (.load mXs (rc k).toLoadRect (View.loadsAt_vmem h_S64x1024))
  Prog.lift (.store mXs (rc k) (k0_pay4 a b) Finset.univ (View.stores_vmem h_S64x1024 ((Memref.isWhole_whole cc0_scratch3).storeExact_slice rfl _ (chunk_packed k)) (fun _ => rfl)) (.inl rfl))
  let _ : Vec F S64x1024 .f32 ← Prog.lift (.load mOut (Rect.unit (s := S1024x1024) (k0_off17 d (BitVec.ofNat 32 (64 * k.val))) S64x1024.size (k0_off17_inb d k)).toLoadRect (View.loadsAt_vmem h_S64x1024))
  Prog.lift (.store mOut (Rect.unit (s := S1024x1024) (k0_off17 d (BitVec.ofNat 32 (64 * k.val))) S64x1024.size (k0_off17_inb d k)) (k0_pay5 a b) Finset.univ (View.stores_vmem_bits_univ h_S64x1024 rfl) (.inl rfl))
  Prog.lift (.enqueueDma (chunk mXs k) (.remote (Dev.tc (devX d)) (chunk mXr k) (.dma (cell cc0_scratch8 k))) (.dma (cell cc0_scratch9 k))
    ((Memref.isWhole_whole cc0_scratch3).wordExact_slice rfl _ (chunk_words k)) ((Memref.isWhole_whole cc0_scratch4).wordExact_slice rfl _ (chunk_words k)) ⟨⟨rfl, Or.inl rfl⟩, trivial⟩)

/-- Wait for the neighbour's chunk `k` along x and store it. -/
def procXP (d : Dev nD) (k : Fin 8) : KProg F PUnit := do
  Prog.lift (.waitDma2 (cell cc0_scratch9 k) (chunk mXs k) (chunk mXr k)
    ((Memref.isWhole_whole cc0_scratch3).wordExact_slice rfl _ (chunk_words k)) ((Memref.isWhole_whole cc0_scratch4).wordExact_slice rfl _ (chunk_words k)))
  let a : Vec F S64x1024 .bf16 ← Prog.lift (.load mXr (rc k).toLoadRect (View.loadsAt_vmem h_S64x1024))
  let _ : Vec F S64x1024 .f32 ← Prog.lift (.load mOut (Rect.unit (s := S1024x1024) (k0_off23 d (BitVec.ofNat 32 (64 * k.val))) S64x1024.size (k0_off23_inb d k)).toLoadRect (View.loadsAt_vmem h_S64x1024))
  Prog.lift (.store mOut (Rect.unit (s := S1024x1024) (k0_off23 d (BitVec.ofNat 32 (64 * k.val))) S64x1024.size (k0_off23_inb d k)) (k0_pay10 a) Finset.univ (View.stores_vmem_bits_univ h_S64x1024 rfl) (.inl rfl))

/-- Wait for chunk `k`'s two sends. -/
def sentP (k : Fin 8) : KProg F PUnit := do
  Prog.lift (.waitDma2 (cell cc0_scratch6 k) (chunk mYr k) (chunk mYs k)
    ((Memref.isWhole_whole cc0_scratch2).wordExact_slice rfl _ (chunk_words k)) ((Memref.isWhole_whole cc0_scratch1).wordExact_slice rfl _ (chunk_words k)))
  Prog.lift (.waitDma2 (cell cc0_scratch8 k) (chunk mXr k) (chunk mXs k)
    ((Memref.isWhole_whole cc0_scratch4).wordExact_slice rfl _ (chunk_words k)) ((Memref.isWhole_whole cc0_scratch3).wordExact_slice rfl _ (chunk_words k)))

/-- The phases after the meeting. -/
def afterMeet (d : Dev nD) : KProg F PUnit := do
  issueP d 0
  issueP d 1
  drainP 0; sendP d 0
  issueP d 2
  drainP 1; sendP d 1; procYP d 0
  issueP d 3
  drainP 2; sendP d 2; procYP d 1; procXP d 0
  issueP d 4
  drainP 3; sendP d 3; procYP d 2; procXP d 1
  issueP d 5
  drainP 4; sendP d 4; procYP d 3; procXP d 2
  issueP d 6
  drainP 5; sendP d 5; procYP d 4; procXP d 3
  issueP d 7
  drainP 6; sendP d 6; procYP d 5; procXP d 4
  drainP 7; sendP d 7; procYP d 6; procXP d 5
  procYP d 7; procXP d 6; procXP d 7
  sentP 0; sentP 1; sentP 2; sentP 3; sentP 4; sentP 5; sentP 6; sentP 7

/-- The body, by its phases. -/
def bodyP : KProg F PUnit := do
  let d ← Prog.lift .deviceId
  meetP d
  afterMeet d

set_option maxRecDepth 65536 in
set_option maxHeartbeats 4000000 in
/-- The body that the pipeline calls is the phases' sequence. -/
theorem body_eq (t : Fin cfg0.N) : bodyAt0 (F := F) t = bodyP := by
  show cc0_body mPk _ mIds _ mE _ mOut _ mG _ mYs _ mYr _ mXs _ mXr _ _ _ _ _ _ = _
  rw [cc0_body_eq_skeleton]
  unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton]
  unfold k0_part1_skel k0_part2_skel k0_part3_skel k0_part4_skel k0_part5_skel k0_part6_skel k0_part7_skel k0_part8_skel k0_part9_skel k0_part10_skel
    k0_part11_skel k0_part12_skel k0_part13_skel k0_part14_skel k0_part15_skel k0_part16_skel k0_part17_skel k0_part18_skel k0_part19_skel
    k0_part20_skel k0_part21_skel k0_part22_skel k0_part23_skel k0_part24_skel
  unfold bodyP afterMeet meetP sendP procYP procXP sentP
  simp only [bind_assoc, pure_bind]
  rfl

end Cert.Proof.Lookup

end
-- ==== Proof.Common.lean ====
/- The protocol of the kernel between the four devices, and what each landing hands over.

   Device (x, y) holds half y of the table and half x of the rows to look up; `devY` is its neighbour with the other
   half of the table, `devX` its neighbour with the other half of the rows. Chunk k is 64 rows.

   * barrier cell: two duties of one unit, one paid by each neighbour. The neighbour along y hands over its landing
     buffer `mYr` (any contents) with the fact that its eight cells yr are open; the neighbour along x the same of `mXr`, xr.
   * ys[k], xs[k]: the core's own sends; the source comes back.
   * yr[k]: paid by the neighbour along y with its masked rows; xr[k]: by the neighbour along x with its sums.

   A wait is below all that the waiter still owes: barrier at 1, yr[k] at 2 + 2k, xr[k] at 3 + 2k. -/
module

public import proofs.«01_k».proof.Proof.Phases
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Batch
public import Idealize.ShloMosaic.Lib.Ring
public import Idealize.ShloMosaic.Lib.ValueIdxCore
public import Idealize.ShloMosaic.Lib.Tactic

@[expose] public section

noncomputable section

namespace Cert.Proof.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

/-! ## The neighbours -/

theorem devY_devY (c : Dev nD) : devY (devY c) = c := by revert c; decide
theorem devX_devX (c : Dev nD) : devX (devX c) = c := by revert c; decide
/-- The pairing along y, and along x. -/
def swapY : Dev nD ≃ Dev nD := ⟨devY, devY, devY_devY, devY_devY⟩
def swapX : Dev nD ≃ Dev nD := ⟨devX, devX, devX_devX, devX_devX⟩

/-! ## The cells -/

abbrev barC (c : Dev nD) : GSem nD τ sig := ((c : Thread nD τ), .reg bar.sem)
abbrev gC (k : Fin 8) (c : Dev nD) : GSem nD τ sig := ((c : Thread nD τ), .dma (cell cc0_scratch5 k))
abbrev ysC (k : Fin 8) (c : Dev nD) : GSem nD τ sig := ((c : Thread nD τ), .dma (cell cc0_scratch6 k))
abbrev yrC (k : Fin 8) (c : Dev nD) : GSem nD τ sig := ((c : Thread nD τ), .dma (cell cc0_scratch7 k))
abbrev xsC (k : Fin 8) (c : Dev nD) : GSem nD τ sig := ((c : Thread nD τ), .dma (cell cc0_scratch8 k))
abbrev xrC (k : Fin 8) (c : Dev nD) : GSem nD τ sig := ((c : Thread nD τ), .dma (cell cc0_scratch9 k))

/-- What a semaphore is in the protocol. -/
inductive Role | other | bar | ys (k : Fin 8) | yr (k : Fin 8) | xs (k : Fin 8) | xr (k : Fin 8)
  deriving DecidableEq

def roleNat (n : Nat) : Role :=
  if n < 11 then .other
  else if n < 19 then .ys ⟨(n - 11) % 8, Nat.mod_lt _ (by decide)⟩
  else if n < 27 then .yr ⟨(n - 19) % 8, Nat.mod_lt _ (by decide)⟩
  else if n < 35 then .xs ⟨(n - 27) % 8, Nat.mod_lt _ (by decide)⟩
  else .xr ⟨(n - 35) % 8, Nat.mod_lt _ (by decide)⟩
def role : SemLoc sig → Role
  | .reg _ => .bar
  | .dma s => roleNat s.val

theorem role_bar : role (.reg bar.sem) = .bar := rfl
theorem role_g (k : Fin 8) : role (.dma (cell cc0_scratch5 k)) = .other := by revert k; decide
theorem role_ys (k : Fin 8) : role (.dma (cell cc0_scratch6 k)) = .ys k := by revert k; decide
theorem role_yr (k : Fin 8) : role (.dma (cell cc0_scratch7 k)) = .yr k := by revert k; decide
theorem role_xs (k : Fin 8) : role (.dma (cell cc0_scratch8 k)) = .xs k := by revert k; decide
theorem role_xr (k : Fin 8) : role (.dma (cell cc0_scratch9 k)) = .xr k := by revert k; decide

/-! ## The resource algebra -/

/-- The pipeline's rounds, the protocol's rounds (two duties at most) and the counters of the row copies. -/
abbrev UU : Type := UR sig nD τ × (Rounds.URounds (GSem nD τ sig) Bool × Counters)

local notation "𝕄" => MT nD τ sig Unit (Elt F) ℕ UU ℕ

abbrev EP : Emb (UR sig nD τ) (MT nD τ sig Unit (Elt F) ℕ UU ℕ) := embL
/-- Where the protocol's rounds lie. -/
def ER : Emb (Rounds.URounds (GSem nD τ sig) Bool) (MT nD τ sig Unit (Elt F) ℕ UU ℕ) :=
  (Emb.inl : Emb _ (Rounds.URounds (GSem nD τ sig) Bool × Counters)).trans embR
instance ER_landsIn : (ER : Emb _ 𝕄).LandsIn (upEmb : UEmb _ 𝕄) := by unfold ER; infer_instance
abbrev EC : UEmb Counters (MT nD τ sig Unit (Elt F) ℕ UU ℕ) := countersEmb (U := UU)

/-! ## The contents -/

/-- What the region finds on every device: the packed local indices, the ids, the half table; every word names two rows. -/
structure Ins (F : FTy → Type) where
  pk : Dev nD → S512.Idx → Elt F .i32
  ids : Dev nD → S1024x1.Idx → Elt F .i32
  E : Dev nD → S8192x1024.Idx → Elt F .f32
  chk : ∀ d i, k0_chk1 (pk d i)

variable (I : Ins F)

/-- The word that holds the local index of row `r` of device `c`'s 512. -/
def wordOf (c : Dev nD) (r : Nat) : S512.Idx := fun a => ⟨(256 * (c.val / 2) + r / 2) % 512, by
  match a with | ⟨0, _⟩ => exact Nat.mod_lt _ (by decide)⟩
/-- The row of the half table that row `r` of the gather copies. -/
def srcRow (c : Dev nD) (r : Nat) : Nat :=
  if r % 2 = 0 then k0_off3 (I.pk c (wordOf c r)) 0 else k0_off5 (I.pk c (wordOf c r)) 0
theorem srcRow_lt (c : Dev nD) (r : Nat) : srcRow I c r < 8192 := by
  have h := I.chk c (wordOf c r)
  have h1 : k0_off3 (I.pk c (wordOf c r)) 0 + 1 ≤ 8192 := h.1 0
  have h2 : k0_off5 (I.pk c (wordOf c r)) 0 + 1 ≤ 8192 := h.2 0
  unfold srcRow; split <;> omega

/-- The gathered rows. -/
def gV (c : Dev nD) : S512x1024.Idx → Elt F .f32 := fun y => I.E c (ix2 ⟨srcRow I c (y 0).val, srcRow_lt I c _⟩ (y 1))

/-- Contents of 512 rows given by chunks of 64. -/
def perChunk {α : Type} (p : Fin 8 → S64x1024.Idx → α) : S512x1024.Idx → α := fun y =>
  p ⟨(y 0).val / 64, by have h : (y 0).val < 512 := (y 0).isLt; omega⟩ (ix2 ⟨(y 0).val % 64, Nat.mod_lt _ (by decide)⟩ (y 1))

/-- Chunk `k` of the ids of the rows of device `c`. -/
abbrev rIds (c : Dev nD) (k : Fin 8) : Rect S1024x1 := Rect.unit (s := S1024x1) (k0_off11 c (BitVec.ofNat 32 (64 * k.val))) S64x1.size (k0_off11_inb c k)
/-- Chunk `k` of the rows of the result that device `c` sums, -/
abbrev rA (c : Dev nD) (k : Fin 8) : Rect S1024x1024 := Rect.unit (s := S1024x1024) (k0_off17 c (BitVec.ofNat 32 (64 * k.val))) S64x1024.size (k0_off17_inb c k)
/-- and of those that its neighbour along x sums. -/
abbrev rB (c : Dev nD) (k : Fin 8) : Rect S1024x1024 := Rect.unit (s := S1024x1024) (k0_off23 c (BitVec.ofNat 32 (64 * k.val))) S64x1024.size (k0_off23_inb c k)

/-- The ids of chunk `k`, as loaded, and the gathered rows. -/
def idsCh (c : Dev nD) (k : Fin 8) : Vec F S64x1 .i32 := mIds.view.readAt (Elt F) (rIds c k).toLoadRect (I.ids c)
def gCh (c : Dev nD) (k : Fin 8) : Vec F S64x1024 .f32 := mG.view.readAt (Elt F) (rc k).toLoadRect (gV I c)
/-- The masked rows of chunk `k` (what goes along y), -/
def ysCh (c : Dev nD) (k : Fin 8) : Vec F S64x1024 .bf16 := k0_pay1 (baseW c) (idsCh I c k) (gCh I c k)
/-- and their sum over the two halves of the table (what goes along x). -/
def xsCh (c : Dev nD) (k : Fin 8) : Vec F S64x1024 .bf16 := k0_pay4 (ysCh I c k) (ysCh I (devY c) k)

def ysV (c : Dev nD) : S512x1024.Idx → Elt F .bf16 := perChunk (ysCh I c)
def xsV (c : Dev nD) : S512x1024.Idx → Elt F .bf16 := perChunk (xsCh I c)
/-- The result: the own rows widened from the sum, the others from what came along x. -/
def outV (c : Dev nD) : S1024x1024.Idx → Elt F .f32 := fun y =>
  if (y 0).val / 512 = c.val / 2
  then perChunk (fun k => k0_pay5 (ysCh I c k) (ysCh I (devY c) k)) (ix2 ⟨(y 0).val % 512, Nat.mod_lt _ (by decide)⟩ (y 1))
  else perChunk (fun k => k0_pay10 (xsCh I (devX c) k)) (ix2 ⟨(y 0).val % 512, Nat.mod_lt _ (by decide)⟩ (y 1))

/-- Reading chunk `k` of contents given by chunks. -/
theorem perChunk_rc {α : Type} (p : Fin 8 → S64x1024.Idx → α) (k : Fin 8) (x : S64x1024.Idx) : perChunk p ((rc k).idx x) = p k x := by
  have h0 : (x 0).val < 64 := (x 0).isLt
  have e0 : ((rc k).idx x 0).val = 64 * k.val + (x 0).val := by simp [LoadRect.idx]
  have e1 : ((rc k).idx x 1) = x 1 := Fin.ext (by simp [LoadRect.idx])
  unfold perChunk
  have hk : (⟨((rc k).idx x 0).val / 64, by rw [e0]; omega⟩ : Fin 8) = k := Fin.ext (by show ((rc k).idx x 0).val / 64 = k.val; rw [e0]; omega)
  rw [hk, e1]
  congr 1
  funext a
  match a with
  | ⟨0, _⟩ => exact Fin.ext (by show ((rc k).idx x 0).val % 64 = (x 0).val; rw [e0]; omega)
  | ⟨1, _⟩ => rfl

/-! ## Points-tos -/

/-- Chunk `k` of a buffer of 512 rows of device `c`. -/
abbrev chP {e : EltTy} (b : Memref sig .tc .vmem S512x1024 e) (c : Dev nD) (k : Fin 8) (q : PosShare TreeShare)
    (f : Buf (Elt F) ((chunk b k).view.loc (c : Thread nD τ))) : sProp 𝕄 :=
  (chunk b k).view.loc (c : Thread nD τ) ↦[(chunk b k).view.set]{q} f
/-- The same at any contents. -/
abbrev chAny {e : EltTy} (b : Memref sig .tc .vmem S512x1024 e) (c : Dev nD) (k : Fin 8) : sProp 𝕄 :=
  iprop(∃ f, chP b c k fullShare f)

/-- The units that one chunk's copy credits. -/
abbrev NC : ℕ := (chunk mYr 0).view.dmaCredit
theorem NC_pos : 0 < NC := View.dmaCredit_pos _ (by decide)

/-! ## The schedule -/

/-- What the neighbour along y hands over at the barrier of `c`, and the neighbour along x. -/
def barPayY (c : Dev nD) : sProp 𝕄 :=
  bigSep Finset.univ fun k : Fin 8 => iprop(chAny mYr (devY c) k ∗ reached ER (yrC k (devY c)) 0)
def barPayX (c : Dev nD) : sProp 𝕄 :=
  bigSep Finset.univ fun k : Fin 8 => iprop(chAny mXr (devX c) k ∗ reached ER (xrC k (devX c)) 0)

/-- The protocol: one round on every cell. -/
def talkRd : Rounds.Schedule (GSem nD τ sig) Bool 𝕄 where
  duties g r := if r = 0 ∧ g.1.2 = .tc then
      (match role g.2 with | .other => ∅ | .bar => {false, true} | _ => {false}) else ∅
  unitless _ := False
  amount g _ _ := match role g.2 with | .other => 1 | .bar => 1 | _ => NC
  payload g _ d := match role g.2 with
    | .other => iprop(emp)
    | .bar => if d = false then barPayY g.1.1 else barPayX g.1.1
    | .ys k => chP mYs g.1.1 k fullShare.left (ysV I g.1.1)
    | .yr k => chP mYr g.1.1 k fullShare (ysV I (devY g.1.1))
    | .xs k => chP mXs g.1.1 k fullShare (xsV I g.1.1)
    | .xr k => chP mXr g.1.1 k fullShare (xsV I (devX g.1.1))
  amount_pos g _ _ _ := by
    cases role g.2 <;> first | exact Nat.one_pos | exact NC_pos

instance talkRd_storable (g : GSem nD τ sig) (r : ℕ) (d : Bool) : BI.Storable (upEmb : UEmb _ 𝕄) ((talkRd I).payload g r d) := by
  show BI.Storable upEmb (match role g.2 with
    | .other => iprop(emp)
    | .bar => if d = false then barPayY g.1.1 else barPayX g.1.1
    | .ys k => chP mYs g.1.1 k fullShare.left (ysV I g.1.1)
    | .yr k => chP mYr g.1.1 k fullShare (ysV I (devY g.1.1))
    | .xs k => chP mXs g.1.1 k fullShare (xsV I g.1.1)
    | .xr k => chP mXr g.1.1 k fullShare (xsV I (devX g.1.1)) : sProp 𝕄)
  cases role g.2 <;> simp only
  case bar => unfold barPayY barPayX; split <;> infer_instance
  all_goals infer_instance

section Sched

variable (c : Dev nD) (k : Fin 8)

theorem duties_bar : (talkRd I).duties (barC c) 0 = {false, true} := by dsimp only [talkRd]; rw [if_pos ⟨rfl, rfl⟩, role_bar]
theorem duties_ys : (talkRd I).duties (ysC k c) 0 = {false} := by dsimp only [talkRd]; rw [if_pos ⟨rfl, rfl⟩, role_ys]
theorem duties_yr : (talkRd I).duties (yrC k c) 0 = {false} := by dsimp only [talkRd]; rw [if_pos ⟨rfl, rfl⟩, role_yr]
theorem duties_xs : (talkRd I).duties (xsC k c) 0 = {false} := by dsimp only [talkRd]; rw [if_pos ⟨rfl, rfl⟩, role_xs]
theorem duties_xr : (talkRd I).duties (xrC k c) 0 = {false} := by dsimp only [talkRd]; rw [if_pos ⟨rfl, rfl⟩, role_xr]
theorem duties_later (g : GSem nD τ sig) : ∀ r, 1 ≤ r → (talkRd I).duties g r = ∅ :=
  fun r hr => by dsimp only [talkRd]; rw [if_neg (fun h => by omega)]

theorem amount_bar (d : Bool) : (talkRd I).amount (barC c) 0 d = 1 := by dsimp only [talkRd]; rw [role_bar]
theorem amount_ys (d : Bool) : (talkRd I).amount (ysC k c) 0 d = NC := by dsimp only [talkRd]; rw [role_ys]
theorem amount_yr (d : Bool) : (talkRd I).amount (yrC k c) 0 d = NC := by dsimp only [talkRd]; rw [role_yr]
theorem amount_xs (d : Bool) : (talkRd I).amount (xsC k c) 0 d = NC := by dsimp only [talkRd]; rw [role_xs]
theorem amount_xr (d : Bool) : (talkRd I).amount (xrC k c) 0 d = NC := by dsimp only [talkRd]; rw [role_xr]

theorem expect_bar : (talkRd I).expect (barC c) 0 = 2 := by
  unfold Schedule.expect Schedule.amountOf; rw [duties_bar, Finset.sum_pair (by decide), amount_bar, amount_bar]
theorem expect_ys : (talkRd I).expect (ysC k c) 0 = NC := by
  unfold Schedule.expect Schedule.amountOf; rw [duties_ys, Finset.sum_singleton, amount_ys]
theorem expect_yr : (talkRd I).expect (yrC k c) 0 = NC := by
  unfold Schedule.expect Schedule.amountOf; rw [duties_yr, Finset.sum_singleton, amount_yr]
theorem expect_xs : (talkRd I).expect (xsC k c) 0 = NC := by
  unfold Schedule.expect Schedule.amountOf; rw [duties_xs, Finset.sum_singleton, amount_xs]
theorem expect_xr : (talkRd I).expect (xrC k c) 0 = NC := by
  unfold Schedule.expect Schedule.amountOf; rw [duties_xr, Finset.sum_singleton, amount_xr]

theorem payload_barY : (talkRd I).payload (barC c) 0 false = barPayY c := by dsimp only [talkRd]; rw [role_bar]; exact if_pos rfl
theorem payload_barX : (talkRd I).payload (barC c) 0 true = barPayX c := by dsimp only [talkRd]; rw [role_bar]; exact if_neg (by decide)
theorem payload_ys (d : Bool) : (talkRd I).payload (ysC k c) 0 d = chP mYs c k fullShare.left (ysV I c) := by dsimp only [talkRd]; rw [role_ys]
theorem payload_yr (d : Bool) : (talkRd I).payload (yrC k c) 0 d = chP mYr c k fullShare (ysV I (devY c)) := by dsimp only [talkRd]; rw [role_yr]
theorem payload_xs (d : Bool) : (talkRd I).payload (xsC k c) 0 d = chP mXs c k fullShare (xsV I c) := by dsimp only [talkRd]; rw [role_xs]
theorem payload_xr (d : Bool) : (talkRd I).payload (xrC k c) 0 d = chP mXr c k fullShare (xsV I (devX c)) := by dsimp only [talkRd]; rw [role_xr]

theorem rest_bar : bigSep ((talkRd I).duties (barC c) 0 \ ∅) (fun d => (talkRd I).payload (barC c) 0 d) = iprop(barPayY c ∗ barPayX c) := by
  rw [Finset.sdiff_empty, duties_bar, bigSep_insert (by decide), bigSep_singleton, payload_barY, payload_barX]; rfl
theorem rest_ys : bigSep ((talkRd I).duties (ysC k c) 0 \ ∅) (fun d => (talkRd I).payload (ysC k c) 0 d) = chP mYs c k fullShare.left (ysV I c) := by
  rw [Finset.sdiff_empty, duties_ys, bigSep_singleton, payload_ys]
theorem rest_yr : bigSep ((talkRd I).duties (yrC k c) 0 \ ∅) (fun d => (talkRd I).payload (yrC k c) 0 d) = chP mYr c k fullShare (ysV I (devY c)) := by
  rw [Finset.sdiff_empty, duties_yr, bigSep_singleton, payload_yr]
theorem rest_xs : bigSep ((talkRd I).duties (xsC k c) 0 \ ∅) (fun d => (talkRd I).payload (xsC k c) 0 d) = chP mXs c k fullShare (xsV I c) := by
  rw [Finset.sdiff_empty, duties_xs, bigSep_singleton, payload_xs]
theorem rest_xr : bigSep ((talkRd I).duties (xrC k c) 0 \ ∅) (fun d => (talkRd I).payload (xrC k c) 0 d) = chP mXr c k fullShare (xsV I (devX c)) := by
  rw [Finset.sdiff_empty, duties_xr, bigSep_singleton, payload_xr]

end Sched

/-! ## What each core owes; the levels -/

/-- The landings on the neighbour along y from chunk `n` on; along x. -/
def oY (c : Dev nD) (n : ℕ) : CellTallies nD τ sig Unit :=
  ∑ k ∈ Finset.univ.filter (fun k : Fin 8 => n ≤ k.val), tallyAt (yrC k (devY c)) () NC
def oX (c : Dev nD) (n : ℕ) : CellTallies nD τ sig Unit :=
  ∑ k ∈ Finset.univ.filter (fun k : Fin 8 => n ≤ k.val), tallyAt (xrC k (devX c)) () NC
/-- All that core `c` owes with `ny` chunks sent along y and `nx` along x. -/
def oC (c : Dev nD) (ny nx : ℕ) : CellTallies nD τ sig Unit := oY c ny + oX c nx
/-- What it owes at launch: all that, and a unit to each neighbour's barrier. -/
def O₀ (c : Dev nD) : CellTallies nD τ sig Unit := oC c 0 0 + tallyAt (barC (devX c)) () 1 + tallyAt (barC (devY c)) () 1

theorem filter_succ (k : Fin 8) : (Finset.univ.filter fun j : Fin 8 => k.val ≤ j.val) = insert k (Finset.univ.filter fun j : Fin 8 => k.val + 1 ≤ j.val) := by
  revert k; decide
theorem oY_succ (c : Dev nD) (k : Fin 8) : oY c k.val = oY c (k.val + 1) + tallyAt (yrC k (devY c)) () NC := by
  unfold oY; rw [filter_succ, Finset.sum_insert (by simp), add_comm]
theorem oX_succ (c : Dev nD) (k : Fin 8) : oX c k.val = oX c (k.val + 1) + tallyAt (xrC k (devX c)) () NC := by
  unfold oX; rw [filter_succ, Finset.sum_insert (by simp), add_comm]
theorem oC_succY (c : Dev nD) (k : Fin 8) (nx : ℕ) : oC c k.val nx = oC c (k.val + 1) nx + tallyAt (yrC k (devY c)) () NC := by
  unfold oC; rw [oY_succ]; ac_rfl
theorem oC_succX (c : Dev nD) (k : Fin 8) (ny : ℕ) : oC c ny k.val = oC c ny (k.val + 1) + tallyAt (xrC k (devX c)) () NC := by
  unfold oC; rw [oX_succ]; ac_rfl
theorem oC_end (c : Dev nD) : oC c 8 8 = 0 := by
  have h : (Finset.univ.filter fun j : Fin 8 => 8 ≤ j.val) = ∅ := by decide
  unfold oC oY oX; rw [h, Finset.sum_empty, Finset.sum_empty, add_zero]

def L (g : GSem nD τ sig) : Finset Unit := if g.1.2 = .tc then {()} else ∅
def lv (g : GSem nD τ sig) (_ : Unit) : ℕ := match role g.2 with
  | .bar => 1 | .yr k => 2 + 2 * k.val | .xr k => 3 + 2 * k.val | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barC c) () = 1 := by dsimp only [lv]; rw [role_bar]
theorem lv_g (k : Fin 8) (c : Dev nD) : lv (gC k c) () = 0 := by dsimp only [lv]; rw [role_g]
theorem lv_ys (k : Fin 8) (c : Dev nD) : lv (ysC k c) () = 0 := by dsimp only [lv]; rw [role_ys]
theorem lv_yr (k : Fin 8) (c : Dev nD) : lv (yrC k c) () = 2 + 2 * k.val := by dsimp only [lv]; rw [role_yr]
theorem lv_xs (k : Fin 8) (c : Dev nD) : lv (xsC k c) () = 0 := by dsimp only [lv]; rw [role_xs]
theorem lv_xr (k : Fin 8) (c : Dev nD) : lv (xrC k c) () = 3 + 2 * k.val := by dsimp only [lv]; rw [role_xr]

theorem of_tallyAt {g g' : GSem nD τ sig} {n : ℕ} {u : Unit} (h : 0 < (tallyAt g () n : CellTallies nD τ sig Unit) g' u) : g' = g := by
  rw [tallyAt_apply] at h
  by_contra hne
  rw [if_neg (fun hh => hne hh.1)] at h
  exact absurd h (Nat.lt_irrefl 0)

theorem of_sum {ι : Type} (s : Finset ι) (f : ι → CellTallies nD τ sig Unit) {g : GSem nD τ sig} {u : Unit} (h : 0 < (∑ i ∈ s, f i) g u) :
    ∃ i ∈ s, 0 < f i g u := by
  rw [Finset.sum_apply, Finsupp.finset_sum_apply] at h
  by_contra hne
  push Not at hne
  have : ∑ i ∈ s, f i g u = 0 := Finset.sum_eq_zero fun i hi => Nat.le_zero.mp (hne i hi)
  omega

/-- What is owed of the landings lies on TensorCores, at the level of the first chunk not sent or above. -/
theorem of_oC {c : Dev nD} {ny nx : ℕ} {g : GSem nD τ sig} {u : Unit} (h : 0 < oC c ny nx g u) :
    g.1.2 = .tc ∧ (2 + 2 * ny ≤ lv g u ∨ 3 + 2 * nx ≤ lv g u) := by
  have h' : 0 < oY c ny g u + oX c nx g u := h
  rcases Nat.add_pos_iff_pos_or_pos.mp h' with h | h
  · obtain ⟨k, hk, h⟩ := of_sum _ _ h
    have := of_tallyAt h; subst this
    exact ⟨rfl, .inl (by rw [show u = () from rfl, lv_yr]; have := (Finset.mem_filter.mp hk).2; omega)⟩
  · obtain ⟨k, hk, h⟩ := of_sum _ _ h
    have := of_tallyAt h; subst this
    exact ⟨rfl, .inr (by rw [show u = () from rfl, lv_xr]; have := (Finset.mem_filter.mp hk).2; omega)⟩

/-- A wait below all that is still owed. -/
theorem mayWait (c : Dev nD) (sm : SemLoc sig) (ny nx : ℕ) (hy : lv ((c : Thread nD τ), sm) () < 2 + 2 * ny) (hx : lv ((c : Thread nD τ), sm) () < 3 + 2 * nx) :
    (levAts L lv : sProp 𝕄) ⊢ MayWait (c : Thread nD τ) sm () (oC c ny nx) :=
  MayOwe.of_cut (L := L) (lev := lv) (lv ((c : Thread nD τ), sm) ()) (fun p hp => by rw [Finset.mem_singleton.mp hp, L_tc]; exact Finset.mem_singleton_self _)
    (fun g u hg => by unfold L; rw [if_pos (of_oC hg).1]; exact Finset.mem_singleton_self _)
    (fun p hp => by rw [Finset.mem_singleton.mp hp])
    (fun g u hg => by have := (of_oC hg).2; omega)

end Cert.Proof.Lookup

end
-- ==== Proof.Chunk.lean ====
/- One phase of the kernel at a symbolic device and a symbolic chunk: what it needs and what it leaves. -/
module

public import proofs.«01_k».proof.Proof.Common

@[expose] public section

noncomputable section

namespace Cert.Proof.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

variable (I : Ins F)

abbrev 𝒱₀ : Variants := Variants.none

/-! ## Contents through a view -/

/-- Contents written through a view that read back as those of `g` are those of `g` there. -/
theorem pts_write {c : Thread nD τ} {sp : Space} {s : Shape} {e : EltTy} {v : View sig c.2.kind sp s e} {q : PosShare TreeShare}
    {f g : v.ty.Contents (Elt F)} {w : s.Idx → Elt F e} (h : v.read (Elt F) g = w) :
    (v.loc c ↦[v.set]{q} v.write (Elt F) f w Finset.univ : sProp 𝕄) = v.loc c ↦[v.set]{q} g := by
  subst h
  refine pointsTo_congr fun i hi => ?_
  obtain ⟨x, -, rfl⟩ := Finset.mem_map.mp hi
  rw [View.write_emb_of_mem _ _ (Finset.mem_univ x), View.read_apply, cast_cast, cast_eq]

theorem pts_written {c : Thread nD τ} {sp : Space} {s : Shape} {e : EltTy} {v : View sig c.2.kind sp s e} {q : PosShare TreeShare}
    {f g : v.ty.Contents (Elt F)} {w : s.Idx → Elt F e} (h : v.read (Elt F) g = w) :
    (v.loc c ↦[v.set]{q} v.write (Elt F) f w Finset.univ : sProp 𝕄) ⊢ v.loc c ↦[v.set]{q} g := by
  rw [pts_write h]

/-- A whole share is its two halves. -/
theorem chP_halves {e : EltTy} (b : Memref sig .tc .vmem S512x1024 e) (c : Dev nD) (k : Fin 8) (f : Buf (Elt F) ((chunk b k).view.loc (c : Thread nD τ))) :
    (chP b c k fullShare f : sProp 𝕄) ⊣⊢ iprop(chP b c k fullShare.left f ∗ chP b c k fullShare.right f) := by
  unfold chP
  exact pointsTo_share (PosShare.mem_left_op_right fullShare)

theorem read_ys (c : Dev nD) (k : Fin 8) : (chunk mYs k).view.read (Elt F) (ysV I c) = ysCh I c k := funext fun x => perChunk_rc (ysCh I c) k x
theorem read_yr (c : Dev nD) (k : Fin 8) : (chunk mYr k).view.read (Elt F) (ysV I c) = ysCh I c k := funext fun x => perChunk_rc (ysCh I c) k x
theorem read_xs (c : Dev nD) (k : Fin 8) : (chunk mXs k).view.read (Elt F) (xsV I c) = xsCh I c k := funext fun x => perChunk_rc (xsCh I c) k x
theorem read_xr (c : Dev nD) (k : Fin 8) : (chunk mXr k).view.read (Elt F) (xsV I c) = xsCh I c k := funext fun x => perChunk_rc (xsCh I c) k x

/-! ## The records -/

/-- One summand of a `bigSep`. -/
theorem pick {ι : Type} [DecidableEq ι] {s : Finset ι} {i : ι} (h : i ∈ s) {Φ : ι → sProp 𝕄} : (bigSep s Φ : sProp 𝕄) ⊢ Φ i := bigSep_elim h

/-- Every cell's invariant, at the names that the launch gave. -/
def recs (K : GSem nD τ sig → ℕ) : sProp 𝕄 :=
  bigSep Finset.univ fun c : Dev nD => iprop(cellInv ER (talkRd I) (K (barC c)) (barC c)
    ∗ bigSep Finset.univ fun k : Fin 8 => iprop(cellInv ER (talkRd I) (K (ysC k c)) (ysC k c) ∗ cellInv ER (talkRd I) (K (yrC k c)) (yrC k c)
      ∗ cellInv ER (talkRd I) (K (xsC k c)) (xsC k c) ∗ cellInv ER (talkRd I) (K (xrC k c)) (xrC k c)))

instance recs_persistent (K : GSem nD τ sig → ℕ) : BI.Persistent (recs I K) := by unfold recs; infer_instance

theorem recs_bar (K : GSem nD τ sig → ℕ) (c : Dev nD) : recs I K ⊢ cellInv ER (talkRd I) (K (barC c)) (barC c) := by
  unfold recs
  iintro H
  icases (pick (Finset.mem_univ c)) $$ H with ⟨H, -⟩
  iexact H
theorem recs_chunk (K : GSem nD τ sig → ℕ) (c : Dev nD) (k : Fin 8) :
    recs I K ⊢ iprop(cellInv ER (talkRd I) (K (ysC k c)) (ysC k c) ∗ cellInv ER (talkRd I) (K (yrC k c)) (yrC k c)
      ∗ cellInv ER (talkRd I) (K (xsC k c)) (xsC k c) ∗ cellInv ER (talkRd I) (K (xrC k c)) (xrC k c)) := by
  unfold recs
  iintro H
  icases (pick (Finset.mem_univ c)) $$ H with ⟨-, H⟩
  iapply (pick (Finset.mem_univ k)) $$ H

/-! ## Send along y -/

theorem sendP_spec (K : GSem nD τ sig → ℕ) (c : Dev nD) (k : Fin 8) (nx : ℕ) (Kt : PUnit → sProp 𝕄) :
    iprop(recs I K ∗ (mIds.view.loc (c : Thread nD τ) ↦{fullShare} I.ids c) ∗ chP mG c k fullShare (gV I c) ∗ chAny mYs c k ∗ chAny mYr (devY c) k
        ∗ dutyTok ER (ysC k c) 0 false ∗ reached ER (ysC k c) 0 ∗ dutyTok ER (yrC k (devY c)) 0 false ∗ reached ER (yrC k (devY c)) 0
        ∗ (∃ W, owes (c : Thread nD τ) (oC c k.val nx) W)
        ∗ (iprop((mIds.view.loc (c : Thread nD τ) ↦{fullShare} I.ids c) ∗ chP mG c k fullShare (gV I c) ∗ chP mYs c k fullShare.right (ysV I c)
            ∗ cred (tallyAt (ysC k c) () NC) ∗ ∃ W, owes (c : Thread nD τ) (oC c (k.val + 1) nx) W) -∗ Kt ⟨⟩))
      ⊢ wp frame (wpE (defs₀ (F := F)) 𝒱₀ (c : Thread nD τ) none) Set.univ (sendP c k) Kt := by
  iintro ⟨#HR, Hids, HG, ⟨%fs, HYs⟩, ⟨%fr, HYr⟩, HtS, #HrS, HtR, #HrR, ⟨%W, HO⟩, Hk⟩
  icases (recs_chunk I K c k) $$ HR with ⟨#HIs, -, -, -⟩
  icases (recs_chunk I K (devY c) k) $$ HR with ⟨-, #HIr, -, -⟩
  sl_unfold [sendP]
  sl_exec
  have hv : sendP_spec.sl.HYs_w1 I c k fs = (chunk mYs k).view.write (Elt F) fs (ysCh I c k) Finset.univ := rfl
  rw [hv]
  ihave HYs' : chP mYs c k fullShare (ysV I c) $$ [HYs]
  · iapply (pts_written (read_ys I c k)) $$ HYs
  icases (chP_halves mYs c k (ysV I c)).1 $$ HYs' with ⟨HL, HRt⟩
  iapply (Rounds.wp_send_pointsTo 𝒱₀ ER (talkRd I) (c : Thread nD τ) none (c' := (devY c : Thread nD τ)) (src := chunk mYs k) (dst := chunk mYr k)
    (sS := .dma (cell cc0_scratch6 k)) (sem := .dma (cell cc0_scratch7 k)) (q := fullShare.left) (fs := ysV I c) (κ₁ := K (ysC k c)) (κ₂ := K (yrC k (devY c)))
    (r₁ := 0) (r₂ := 0) (d₁ := false) (d₂ := false) (fd := fr) (by rw [duties_ys]; exact Finset.mem_singleton_self _) (by rw [duties_yr]; exact Finset.mem_singleton_self _)
    () () NC rfl (amount_ys I c k false) (amount_yr I (devY c) k false) (oC c (k.val + 1) nx) (oC_succY c k nx) (W := W)
    (by rw [payload_ys])
    (by rw [payload_yr, devY_devY]; exact pts_written ((read_yr I c k).trans (read_ys I c k).symm))) $$ [HL HYr HO HtS HtR]
  · isplitl []; · iexact HIs
    isplitl []; · iexact HIr
    isplitl [HL]; · iexact HL
    isplitl [HYr]; · iexact HYr
    isplitl [HO]; · iexact HO
    isplitl [HtS]; · iexact HtS
    isplitl []; · iexact HrS
    isplitl [HtR]; · iexact HtR
    iexact HrR
  iintro ⟨HC, HO⟩
  rw [wp_ret]
  imodintro
  iapply Hk
  isplitl [Hids]; · iexact Hids
  isplitl [HG]; · iexact HG
  isplitl [HRt]; · iexact HRt
  isplitl [HC]; · iexact HC
  iexists W; iexact HO

/-! ## The meeting -/

/-- What the barrier asks of a device for the neighbours: the windows that they write into. -/
theorem meetP_spec (K : GSem nD τ sig → ℕ) (c : Dev nD) (Kt : PUnit → sProp 𝕄) :
    iprop(recs I K ∗ levAts L lv ∗ barPayY (devY c) ∗ barPayX (devX c)
        ∗ dutyTok ER (barC (devY c)) 0 false ∗ reached ER (barC (devY c)) 0 ∗ dutyTok ER (barC (devX c)) 0 true ∗ reached ER (barC (devX c)) 0
        ∗ cred (tallyAt (barC c) () 2) ∗ atPos ER (barC c) 0 ∅ 0
        ∗ (∃ W, owes (c : Thread nD τ) (O₀ c) W)
        ∗ (iprop(barPayY c ∗ barPayX c ∗ semVal (barC c) 0 ∗ ∃ W, owes (c : Thread nD τ) (oC c 0 0) W) -∗ Kt ⟨⟩))
      ⊢ wp frame (wpE (defs₀ (F := F)) 𝒱₀ (c : Thread nD τ) none) Set.univ (meetP c) Kt := by
  iintro ⟨#HR, #Hlev, HpY, HpX, HtY, #HrY, HtX, #HrX, HC, Hat, ⟨%W, HO⟩, Hk⟩
  ihave #HIy := (recs_bar I K (devY c)) $$ HR
  ihave #HIx := (recs_bar I K (devX c)) $$ HR
  ihave #HI := (recs_bar I K c) $$ HR
  sl_unfold [meetP]
  iapply (Rounds.wp_signal 𝒱₀ ER (talkRd I) (c : Thread nD τ) none (dst := (devY c : Thread nD τ)) (sem := bar.sem) (r := 0) (d := false) (κ := K (barC (devY c)))
    (by rw [duties_bar]; decide) (amount_bar I (devY c) false) () (oC c 0 0 + tallyAt (barC (devX c)) () 1) rfl) $$ [HO HtY HpY]
  · isplitl []; · iexact HIy
    isplitl [HO]; · iexact HO
    isplitl [HtY]; · iexact HtY
    isplitl [HpY]; · rw [payload_barY]; iexact HpY
    iexact HrY
  iintro HO
  iapply (Rounds.wp_signal 𝒱₀ ER (talkRd I) (c : Thread nD τ) none (dst := (devX c : Thread nD τ)) (sem := bar.sem) (r := 0) (d := true) (κ := K (barC (devX c)))
    (by rw [duties_bar]; decide) (amount_bar I (devX c) true) () (oC c 0 0) rfl) $$ [HO HtX HpX]
  · isplitl []; · iexact HIx
    isplitl [HO]; · iexact HO
    isplitl [HtX]; · iexact HtX
    isplitl [HpX]; · rw [payload_barX]; iexact HpX
    iexact HrX
  iintro HO
  iapply (Rounds.wp_wait_rest_token 𝒱₀ ER (talkRd I) (c : Thread nD τ) none (κ := K (barC c))
      (wpE_semWait_eq 𝒱₀ (c : Thread nD τ) none Set.univ) (Set.mem_univ _) () (O := oC c 0 0) (W := W) (R := 0) (m := 0) (T := ∅)
      ((Nat.zero_add 2).trans (expect_bar I c).symm)) $$ [HC HO Hat]
  · isplitl []; · iexact HI
    isplitl [HC]; · iexact HC
    isplitl [HO]; · iexact HO
    isplitl []
    · iapply (mayWait c (.reg bar.sem) 0 0 (by rw [show ((c : Thread nD τ), SemLoc.reg bar.sem) = barC c from rfl, lv_bar]; omega)
        (by rw [show ((c : Thread nD τ), SemLoc.reg bar.sem) = barC c from rfl, lv_bar]; omega)) $$ Hlev
    iexact Hat
  iintro ⟨HO, Hat, -, Hpay⟩
  ihave Hp := (Entails.of_eq (rest_bar I c)) $$ Hpay
  icases Hp with ⟨HpY, HpX⟩
  rw [wp_ret]
  imod (Rounds.cell_close ER (talkRd I) (Set.mem_univ (K (barC c))) id (duties_later I (barC c))) $$ [Hat] with Hv
  · isplitl []; · iexact HI
    iexact Hat
  imodintro
  iapply Hk
  isplitl [HpY]; · iexact HpY
  isplitl [HpX]; · iexact HpX
  isplitl [Hv]; · iexact Hv
  iexists _; iexact HO

/-! ## The blocks of the result -/

/-- A block of the result. -/
abbrev oP (c : Dev nD) (r : Rect S1024x1024) (f : Buf (Elt F) (mOut.view.loc (c : Thread nD τ))) : sProp 𝕄 :=
  (mOut.access r).loc (c : Thread nD τ) ↦[(mOut.access r).set]{fullShare} f

theorem read_rA (c : Dev nD) (k : Fin 8) :
    (mOut.access (rA c k)).read (Elt F) (outV I c) = k0_pay5 (ysCh I c k) (ysCh I (devY c) k) := by
  funext x
  show outV I c ((rA c k).idx x) = _
  have h0 : (x 0).val < 64 := (x 0).isLt
  have hc : c.val < 4 := c.isLt
  have e0 : ((rA c k).idx x 0).val = 512 * (c.val / 2) + 64 * k.val + (x 0).val := by
    have := congrFun (k0_off17_eq c k) 0
    simp only [LoadRect.idx] at this ⊢; simp [this]
  have e1 : ((rA c k).idx x 1) = x 1 := Fin.ext (by
    have := congrFun (k0_off17_eq c k) 1
    simp only [LoadRect.idx] at this ⊢; simp [this])
  unfold outV
  rw [if_pos (by rw [e0]; omega), ← perChunk_rc (fun k => k0_pay5 (ysCh I c k) (ysCh I (devY c) k)) k x]
  congr 1
  funext a
  match a with
  | ⟨0, _⟩ => exact Fin.ext (by show ((rA c k).idx x 0).val % 512 = ((rc k).idx x 0).val; rw [e0]; simp [LoadRect.idx]; omega)
  | ⟨1, _⟩ => exact e1.trans (Fin.ext (by simp [LoadRect.idx]))

theorem read_rB (c : Dev nD) (k : Fin 8) :
    (mOut.access (rB c k)).read (Elt F) (outV I c) = k0_pay10 (xsCh I (devX c) k) := by
  funext x
  show outV I c ((rB c k).idx x) = _
  have h0 : (x 0).val < 64 := (x 0).isLt
  have hc : c.val < 4 := c.isLt
  have e0 : ((rB c k).idx x 0).val = (64 * k.val + 512) - 512 * (c.val / 2) + (x 0).val := by
    have := congrFun (k0_off23_eq c k) 0
    simp only [LoadRect.idx] at this ⊢; simp [this]
  have e1 : ((rB c k).idx x 1) = x 1 := Fin.ext (by
    have := congrFun (k0_off23_eq c k) 1
    simp only [LoadRect.idx] at this ⊢; simp [this])
  unfold outV
  rw [if_neg (by rw [e0]; omega), ← perChunk_rc (fun k => k0_pay10 (xsCh I (devX c) k)) k x]
  congr 1
  funext a
  match a with
  | ⟨0, _⟩ => exact Fin.ext (by show ((rB c k).idx x 0).val % 512 = ((rc k).idx x 0).val; rw [e0]; simp [LoadRect.idx]; omega)
  | ⟨1, _⟩ => exact e1.trans (Fin.ext (by simp [LoadRect.idx]))

/-! ## Add what came along y, send along x -/

theorem procYP_spec (K : GSem nD τ sig → ℕ) (c : Dev nD) (k : Fin 8) (ny : ℕ) (hny : k.val < ny) (Kt : PUnit → sProp 𝕄) :
    iprop(recs I K ∗ levAts L lv ∗ chP mYs c k fullShare.right (ysV I c) ∗ chAny mXs c k ∗ chAny mXr (devX c) k
        ∗ (∃ f, oP c (rA c k) f)
        ∗ cred (tallyAt (yrC k c) () NC) ∗ atPos ER (yrC k c) 0 ∅ 0
        ∗ dutyTok ER (xsC k c) 0 false ∗ reached ER (xsC k c) 0 ∗ dutyTok ER (xrC k (devX c)) 0 false ∗ reached ER (xrC k (devX c)) 0
        ∗ (∃ W, owes (c : Thread nD τ) (oC c ny k.val) W)
        ∗ (iprop(chP mYs c k fullShare.right (ysV I c) ∗ chP mYr c k fullShare (ysV I (devY c)) ∗ oP c (rA c k) (outV I c)
            ∗ semVal (yrC k c) 0 ∗ cred (tallyAt (xsC k c) () NC) ∗ ∃ W, owes (c : Thread nD τ) (oC c ny (k.val + 1)) W) -∗ Kt ⟨⟩))
      ⊢ wp frame (wpE (defs₀ (F := F)) 𝒱₀ (c : Thread nD τ) none) Set.univ (procYP c k) Kt := by
  iintro ⟨#HR, #Hlev, HYs, ⟨%fs, HXs⟩, ⟨%fr, HXr⟩, ⟨%fo, HOut⟩, HC, Hat, HtS, #HrS, HtR, #HrR, ⟨%W, HO⟩, Hk⟩
  icases (recs_chunk I K c k) $$ HR with ⟨-, #HIy, #HIs, -⟩
  icases (recs_chunk I K (devX c) k) $$ HR with ⟨-, -, -, #HIr⟩
  sl_unfold [procYP]
  iapply (Rounds.wp_wait_rest_token 𝒱₀ ER (talkRd I) (c : Thread nD τ) none (κ := K (yrC k c))
      (wpE_waitDma2_eq (src := chunk mYs k) (dst := chunk mYr k) 𝒱₀ (c : Thread nD τ) none Set.univ) (Set.mem_univ _) () (O := oC c ny k.val) (W := W) (R := 0) (m := 0) (T := ∅)
      ((Nat.zero_add _).trans (expect_yr I c k).symm)) $$ [HC HO Hat]
  · isplitl []; · iexact HIy
    isplitl [HC]; · iexact HC
    isplitl [HO]; · iexact HO
    isplitl []
    · iapply (mayWait c (.dma (cell cc0_scratch7 k)) ny k.val (by rw [show ((c : Thread nD τ), SemLoc.dma (cell cc0_scratch7 k)) = yrC k c from rfl, lv_yr]; omega)
        (by rw [show ((c : Thread nD τ), SemLoc.dma (cell cc0_scratch7 k)) = yrC k c from rfl, lv_yr]; omega)) $$ Hlev
    iexact Hat
  iintro ⟨HO, Hat, -, Hpay⟩
  ihave HYr := (Entails.of_eq (rest_yr I c k)) $$ Hpay
  simp only [Prog.bind]
  sl_exec
  iapply (wp_load_rect 𝒱₀ (c : Thread nD τ) none Set.univ (m := mOut) (r := rA c k) (S := (mOut.access (rA c k)).set) Finset.Subset.rfl) $$ HOut
  iintro HOut
  simp only [Prog.bind, Prog.lift]
  iapply (wp_store 𝒱₀ (c : Thread nD τ) none Set.univ (m := mOut) (r := rA c k) (S := (mOut.access (rA c k)).set) (by rw [View.setOn_univ])) $$ HOut
  iintro HOut
  have e1 : View.readAt (Elt F) mYs.view (rc k).toLoadRect (ysV I c) = ysCh I c k := read_ys I c k
  have e2 : View.readAt (Elt F) mYr.view (rc k).toLoadRect (ysV I (devY c)) = ysCh I (devY c) k := read_yr I (devY c) k
  have hv : procYP_spec.sl.HXs_w1 I c k fs = (chunk mXs k).view.write (Elt F) fs (k0_pay4 (View.readAt (Elt F) mYs.view (rc k).toLoadRect (ysV I c))
      (View.readAt (Elt F) mYr.view (rc k).toLoadRect (ysV I (devY c)))) Finset.univ := rfl
  rw [hv, e1, e2]
  ihave HXs' : chP mXs c k fullShare (xsV I c) $$ [HXs]
  · iapply (pts_written (read_xs I c k)) $$ HXs
  ihave HOut' : oP c (rA c k) (outV I c) $$ [HOut]
  · iapply (pts_written (read_rA I c k)) $$ HOut
  iapply (Rounds.wp_send_pointsTo 𝒱₀ ER (talkRd I) (c : Thread nD τ) none (c' := (devX c : Thread nD τ)) (src := chunk mXs k) (dst := chunk mXr k)
    (sS := .dma (cell cc0_scratch8 k)) (sem := .dma (cell cc0_scratch9 k)) (q := fullShare) (fs := xsV I c) (κ₁ := K (xsC k c)) (κ₂ := K (xrC k (devX c)))
    (r₁ := 0) (r₂ := 0) (d₁ := false) (d₂ := false) (fd := fr) (by rw [duties_xs]; exact Finset.mem_singleton_self _) (by rw [duties_xr]; exact Finset.mem_singleton_self _)
    () () NC rfl (amount_xs I c k false) (amount_xr I (devX c) k false) (oC c ny (k.val + 1)) (oC_succX c k ny) (W := _)
    (by rw [payload_xs])
    (by rw [payload_xr, devX_devX]; exact pts_written ((read_xr I c k).trans (read_xs I c k).symm))) $$ [HXs' HXr HO HtS HtR]
  · isplitl []; · iexact HIs
    isplitl []; · iexact HIr
    isplitl [HXs']; · iexact HXs'
    isplitl [HXr]; · iexact HXr
    isplitl [HO]; · iexact HO
    isplitl [HtS]; · iexact HtS
    isplitl []; · iexact HrS
    isplitl [HtR]; · iexact HtR
    iexact HrR
  iintro ⟨HC, HO⟩
  rw [wp_ret]
  imod (Rounds.cell_close ER (talkRd I) (Set.mem_univ (K (yrC k c))) id (duties_later I (yrC k c))) $$ [Hat] with Hv
  · isplitl []; · iexact HIy
    iexact Hat
  imodintro
  iapply Hk
  isplitl [HYs]; · iexact HYs
  isplitl [HYr]; · iexact HYr
  isplitl [HOut']; · iexact HOut'
  isplitl [Hv]; · iexact Hv
  isplitl [HC]; · iexact HC
  iexists _; iexact HO

/-! ## Store what came along x -/

theorem procXP_spec (K : GSem nD τ sig → ℕ) (c : Dev nD) (k : Fin 8) (ny nx : ℕ) (hny : k.val < ny) (hnx : k.val < nx) (Kt : PUnit → sProp 𝕄) :
    iprop(recs I K ∗ levAts L lv ∗ (∃ f, oP c (rB c k) f)
        ∗ cred (tallyAt (xrC k c) () NC) ∗ atPos ER (xrC k c) 0 ∅ 0
        ∗ (∃ W, owes (c : Thread nD τ) (oC c ny nx) W)
        ∗ (iprop(chP mXr c k fullShare (xsV I (devX c)) ∗ oP c (rB c k) (outV I c)
            ∗ semVal (xrC k c) 0 ∗ ∃ W, owes (c : Thread nD τ) (oC c ny nx) W) -∗ Kt ⟨⟩))
      ⊢ wp frame (wpE (defs₀ (F := F)) 𝒱₀ (c : Thread nD τ) none) Set.univ (procXP c k) Kt := by
  iintro ⟨#HR, #Hlev, ⟨%fo, HOut⟩, HC, Hat, ⟨%W, HO⟩, Hk⟩
  icases (recs_chunk I K c k) $$ HR with ⟨-, -, -, #HI⟩
  sl_unfold [procXP]
  iapply (Rounds.wp_wait_rest_token 𝒱₀ ER (talkRd I) (c : Thread nD τ) none (κ := K (xrC k c))
      (wpE_waitDma2_eq (src := chunk mXs k) (dst := chunk mXr k) 𝒱₀ (c : Thread nD τ) none Set.univ) (Set.mem_univ _) () (O := oC c ny nx) (W := W) (R := 0) (m := 0) (T := ∅)
      ((Nat.zero_add _).trans (expect_xr I c k).symm)) $$ [HC HO Hat]
  · isplitl []; · iexact HI
    isplitl [HC]; · iexact HC
    isplitl [HO]; · iexact HO
    isplitl []
    · iapply (mayWait c (.dma (cell cc0_scratch9 k)) ny nx (by rw [show ((c : Thread nD τ), SemLoc.dma (cell cc0_scratch9 k)) = xrC k c from rfl, lv_xr]; omega)
        (by rw [show ((c : Thread nD τ), SemLoc.dma (cell cc0_scratch9 k)) = xrC k c from rfl, lv_xr]; omega)) $$ Hlev
    iexact Hat
  iintro ⟨HO, Hat, -, Hpay⟩
  ihave HXr := (Entails.of_eq (rest_xr I c k)) $$ Hpay
  simp only [Prog.bind]
  sl_exec
  iapply (wp_load_rect 𝒱₀ (c : Thread nD τ) none Set.univ (m := mOut) (r := rB c k) (S := (mOut.access (rB c k)).set) Finset.Subset.rfl) $$ HOut
  iintro HOut
  simp only [Prog.bind, Prog.lift]
  iapply (wp_store 𝒱₀ (c : Thread nD τ) none Set.univ (m := mOut) (r := rB c k) (S := (mOut.access (rB c k)).set) (by rw [View.setOn_univ])) $$ HOut
  iintro HOut
  have e1 : View.readAt (Elt F) mXr.view (rc k).toLoadRect (xsV I (devX c)) = xsCh I (devX c) k := read_xr I (devX c) k
  rw [e1]
  ihave HOut' : oP c (rB c k) (outV I c) $$ [HOut]
  · iapply (pts_written (read_rB I c k)) $$ HOut
  rw [wp_ret]
  imod (Rounds.cell_close ER (talkRd I) (Set.mem_univ (K (xrC k c))) id (duties_later I (xrC k c))) $$ [Hat] with Hv
  · isplitl []; · iexact HI
    iexact Hat
  imodintro
  iapply Hk
  isplitl [HXr]; · iexact HXr
  isplitl [HOut']; · iexact HOut'
  isplitl [Hv]; · iexact Hv
  iexists _; iexact HO

/-! ## Wait for the own sends -/

theorem sentP_spec (K : GSem nD τ sig → ℕ) (c : Dev nD) (k : Fin 8) (Kt : PUnit → sProp 𝕄) :
    iprop(recs I K ∗ levAts L lv
        ∗ cred (tallyAt (ysC k c) () NC) ∗ atPos ER (ysC k c) 0 ∅ 0 ∗ cred (tallyAt (xsC k c) () NC) ∗ atPos ER (xsC k c) 0 ∅ 0
        ∗ (∃ W, owes (c : Thread nD τ) (oC c 8 8) W)
        ∗ (iprop(chP mYs c k fullShare.left (ysV I c) ∗ chP mXs c k fullShare (xsV I c) ∗ semVal (ysC k c) 0 ∗ semVal (xsC k c) 0
            ∗ ∃ W, owes (c : Thread nD τ) (oC c 8 8) W) -∗ Kt ⟨⟩))
      ⊢ wp frame (wpE (defs₀ (F := F)) 𝒱₀ (c : Thread nD τ) none) Set.univ (sentP k) Kt := by
  iintro ⟨#HR, #Hlev, HCy, HatY, HCx, HatX, ⟨%W, HO⟩, Hk⟩
  icases (recs_chunk I K c k) $$ HR with ⟨#HIy, -, #HIx, -⟩
  sl_unfold [sentP]
  iapply (Rounds.wp_wait_rest_token 𝒱₀ ER (talkRd I) (c : Thread nD τ) none (κ := K (ysC k c))
      (wpE_waitDma2_eq (src := chunk mYr k) (dst := chunk mYs k) 𝒱₀ (c : Thread nD τ) none Set.univ) (Set.mem_univ _) () (O := oC c 8 8) (W := W) (R := 0) (m := 0) (T := ∅)
      ((Nat.zero_add _).trans (expect_ys I c k).symm)) $$ [HCy HO HatY]
  · isplitl []; · iexact HIy
    isplitl [HCy]; · iexact HCy
    isplitl [HO]; · iexact HO
    isplitl []
    · rw [oC_end, MayWait_zero]; iempintro
    iexact HatY
  iintro ⟨HO, HatY, -, Hpay⟩
  ihave HYs := (Entails.of_eq (rest_ys I c k)) $$ Hpay
  iapply (Rounds.wp_wait_rest_token 𝒱₀ ER (talkRd I) (c : Thread nD τ) none (κ := K (xsC k c))
      (wpE_waitDma2_eq (src := chunk mXr k) (dst := chunk mXs k) 𝒱₀ (c : Thread nD τ) none Set.univ) (Set.mem_univ _) () (O := oC c 8 8) (W := _) (R := 0) (m := 0) (T := ∅)
      ((Nat.zero_add _).trans (expect_xs I c k).symm)) $$ [HCx HO HatX]
  · isplitl []; · iexact HIx
    isplitl [HCx]; · iexact HCx
    isplitl [HO]; · iexact HO
    isplitl []
    · rw [oC_end, MayWait_zero]; iempintro
    iexact HatX
  iintro ⟨HO, HatX, -, Hpay⟩
  ihave HXs := (Entails.of_eq (rest_xs I c k)) $$ Hpay
  rw [wp_ret]
  imod (Rounds.cell_close ER (talkRd I) (Set.mem_univ (K (ysC k c))) id (duties_later I (ysC k c))) $$ [HatY] with HvY
  · isplitl []; · iexact HIy
    iexact HatY
  imod (Rounds.cell_close ER (talkRd I) (Set.mem_univ (K (xsC k c))) id (duties_later I (xsC k c))) $$ [HatX] with HvX
  · isplitl []; · iexact HIx
    iexact HatX
  imodintro
  iapply Hk
  isplitl [HYs]; · iexact HYs
  isplitl [HXs]; · iexact HXs
  isplitl [HvY]; · iexact HvY
  isplitl [HvX]; · iexact HvX
  iexists _; iexact HO

end Cert.Proof.Lookup

end
-- ==== Proof.Gather.lean ====
/- The gather of one chunk: 64 row copies issued on one semaphore, then drained. -/
module

public import proofs.«01_k».proof.Proof.Chunk

@[expose] public section

noncomputable section

namespace Cert.Proof.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

variable (I : Ins F)

/-! ## The offsets in closed form -/

theorem trips32 : k0_t1_loop.trips = 32 := by decide +kernel
theorem trips64 : k0_t3_loop.trips = 64 := by decide +kernel
theorem offW_eq : ∀ (d : Dev nD) (k : Fin 8) (t : Fin k0_t1_loop.trips), offW d k t = ![256 * (d.val / 2) + 32 * k.val + t.val] := by decide +kernel
theorem offLo_eq : ∀ (k : Fin 8) (t : Fin k0_t1_loop.trips), offLo k t = ![64 * k.val + 2 * t.val, 0] := by decide +kernel
theorem offHi_eq : ∀ (k : Fin 8) (t : Fin k0_t1_loop.trips), offHi k t = ![64 * k.val + 2 * t.val + 1, 0] := by decide +kernel

/-! ## Rows -/

/-- Row `r` of a buffer of 512 rows, and row `n` of the half table. -/
def rowSet (r : ℕ) : Finset S512x1024.Idx := Finset.univ.filter fun y => (y 0).val = r
def eSet (n : ℕ) : Finset S8192x1024.Idx := Finset.univ.filter fun y => (y 0).val = n

theorem set_row {off : Fin 2 → ℕ} {r : ℕ} (h : ∀ a, off a + S1x1024.size a ≤ S512x1024.size a) (e : off = ![r, 0]) :
    (mG.slice (Rect.unit (s := S512x1024) off S1x1024.size h) (fun _ => rfl)).view.set = rowSet r := by
  subst e
  refine (View.set_slice_whole _ _).trans ?_
  ext y
  have h1 : (y 1).val < 1024 := (y 1).isLt
  rw [Rect.mem_set_unit, rowSet, Finset.mem_filter]
  constructor
  · intro H; have a0 : r ≤ (y 0).val ∧ (y 0).val < r + 1 := H 0; exact ⟨Finset.mem_univ _, by omega⟩
  · rintro ⟨-, H⟩ a
    match a with
    | ⟨0, _⟩ => show r ≤ (y 0).val ∧ (y 0).val < r + 1; omega
    | ⟨1, _⟩ => show 0 ≤ (y 1).val ∧ (y 1).val < 0 + 1024; omega
theorem set_eRow {off : Fin 2 → ℕ} {r : ℕ} (h : ∀ a, off a + S1x1024.size a ≤ S8192x1024.size a) (e : off = ![r, 0]) :
    (mE.slice (Rect.unit (s := S8192x1024) off S1x1024.size h) (fun _ => rfl)).view.set = eSet r := by
  subst e
  refine (View.set_slice_whole _ _).trans ?_
  ext y
  have h1 : (y 1).val < 1024 := (y 1).isLt
  rw [Rect.mem_set_unit, eSet, Finset.mem_filter]
  constructor
  · intro H; have a0 : r ≤ (y 0).val ∧ (y 0).val < r + 1 := H 0; exact ⟨Finset.mem_univ _, by omega⟩
  · rintro ⟨-, H⟩ a
    match a with
    | ⟨0, _⟩ => show r ≤ (y 0).val ∧ (y 0).val < r + 1; omega
    | ⟨1, _⟩ => show 0 ≤ (y 1).val ∧ (y 1).val < 0 + 1024; omega

theorem set_chunk (k : Fin 8) : Finset.univ.biUnion (fun j : Fin 64 => rowSet (64 * k.val + j.val)) = (chunk mG k).view.set := by
  refine Eq.trans ?_ (View.set_slice_whole _ _).symm
  ext y
  have h1 : (y 1).val < 1024 := (y 1).isLt
  rw [Rect.mem_set_unit, Finset.mem_biUnion]
  constructor
  · rintro ⟨j, -, H⟩ a
    have H' := (Finset.mem_filter.mp H).2
    have hj := j.isLt
    match a with
    | ⟨0, _⟩ => show 64 * k.val ≤ (y 0).val ∧ (y 0).val < 64 * k.val + 64; omega
    | ⟨1, _⟩ => show 0 ≤ (y 1).val ∧ (y 1).val < 0 + 1024; omega
  · intro H
    have a0 : 64 * k.val ≤ (y 0).val ∧ (y 0).val < 64 * k.val + 64 := H 0
    exact ⟨⟨(y 0).val - 64 * k.val, by omega⟩, Finset.mem_univ _, Finset.mem_filter.mpr ⟨Finset.mem_univ _, by show _ = 64 * k.val + ((y 0).val - 64 * k.val); omega⟩⟩
theorem rows_disjoint (k : Fin 8) : ∀ j j' : Fin 64, j ≠ j' → Disjoint (rowSet (64 * k.val + j.val)) (rowSet (64 * k.val + j'.val)) := fun j j' hne => by
  rw [Finset.disjoint_left]; intro y hy hy'
  have a := (Finset.mem_filter.mp hy).2; have b := (Finset.mem_filter.mp hy').2
  exact hne (Fin.ext (by omega))

/-! ## What one chunk's copies hand back -/

/-- One row of the gathered rows, and one of the half table. -/
abbrev gRow (c : Dev nD) (r : ℕ) (f : S512x1024.Idx → Elt F .f32) : sProp 𝕄 := mG.view.loc (c : Thread nD τ) ↦[rowSet r]{fullShare} f
abbrev eRow (c : Dev nD) (n : ℕ) (q : PosShare TreeShare) : sProp 𝕄 := mE.view.loc (c : Thread nD τ) ↦[eSet n]{q} I.E c
/-- Chunk `k`'s share of the half table, whole, and its copies' tokens. -/
abbrev eTok (c : Dev nD) (k : Fin 8) : sProp 𝕄 := mE.view.loc (c : Thread nD τ) ↦{Transfers.shareTokN fullShare k.val} I.E c
abbrev tok (k : Fin 8) (j : ℕ) : PosShare TreeShare := Transfers.shareTokN (Transfers.shareTokN fullShare k.val) j

/-- What copy `j` of chunk `k` hands back: the gathered row, the token on the row that it read. -/
def Dl (c : Dev nD) (k : Fin 8) : Fin 64 → sProp 𝕄 := fun j =>
  iprop(gRow c (64 * k.val + j.val) (gV I c) ∗ eRow I c (srcRow I c (64 * k.val + j.val)) (tok k j.val))
instance Dl_storable (c : Dev nD) (k : Fin 8) (j : Fin 64) : BI.Storable (upEmb : UEmb _ 𝕄) (Dl I c k j) := by unfold Dl; infer_instance

/-- What of chunk `k`'s share of the half table the copies leave alone. -/
def restE (c : Dev nD) (k : Fin 8) : sProp 𝕄 :=
  iprop((mE.view.loc (c : Thread nD τ) ↦{Transfers.shareDrop (Transfers.shareTokN fullShare k.val) 64} I.E c)
    ∗ bigSep Finset.univ fun j : Fin 64 => mE.view.loc (c : Thread nD τ) ↦[Finset.univ \ eSet (srcRow I c (64 * k.val + j.val))]{tok k j.val} I.E c)

/-- The units that one row's copy credits. -/
abbrev NR : ℕ := (mG.slice (Rect.unit (s := S512x1024) ![0, 0] S1x1024.size inb_S512x1024_S1x1024_0_0) (fun _ => rfl)).view.dmaCredit
theorem NR_pos : 0 < NR := View.dmaCredit_pos _ (by decide)

/-- Chunk `k`'s copies, `j` of them issued, `u` units waited for. -/
abbrev bat (c : Dev nD) (k : Fin 8) (j u : ℕ) : sProp 𝕄 := Transfers.Batch EC (c : Thread nD τ) (.dma (cell cc0_scratch5 k)) () NR (Dl I c k) j u

/-- Chunk `k`'s copies all issued, none waited for. -/
def flight (c : Dev nD) (k : Fin 8) : sProp 𝕄 := iprop(bat I c k 64 0 ∗ restE I c k)

theorem eTok_split (c : Dev nD) (k : Fin 8) :
    eTok I c k = iprop(restE I c k ∗ bigSep Finset.univ fun j : Fin 64 => eRow I c (srcRow I c (64 * k.val + j.val)) (tok k j.val)) := by
  have h := Transfers.pointsTo_toks (nD := nD) (τ := τ) (sig := sig) (Ix := Unit) (Val := Elt F) (Name := ℕ) (U := UU) (Lvl := ℕ)
    (ℓ := mE.view.loc (c : Thread nD τ)) (S := Finset.univ) (f := I.E c) (Transfers.shareTokN fullShare k.val) 64
  have h2 : ∀ j : Fin 64, (mE.view.loc (c : Thread nD τ) ↦[Finset.univ]{tok k j.val} I.E c : sProp 𝕄)
      = iprop(eRow I c (srcRow I c (64 * k.val + j.val)) (tok k j.val) ∗ mE.view.loc (c : Thread nD τ) ↦[Finset.univ \ eSet (srcRow I c (64 * k.val + j.val))]{tok k j.val} I.E c) := fun j =>
    BI.Entails.antisymm (pointsTo_split_subset (Finset.subset_univ _)).1 (pointsTo_split_subset (Finset.subset_univ _)).2
  refine (BI.Entails.antisymm h.1 h.2).trans ?_
  rw [show (fun j : Fin 64 => (mE.view.loc (c : Thread nD τ) ↦[Finset.univ]{Transfers.shareTok (Transfers.shareTokN fullShare k.val) 64 j} I.E c : sProp 𝕄))
      = fun j => iprop(eRow I c (srcRow I c (64 * k.val + j.val)) (tok k j.val) ∗ mE.view.loc (c : Thread nD τ) ↦[Finset.univ \ eSet (srcRow I c (64 * k.val + j.val))]{tok k j.val} I.E c)
    from funext h2, bigSep_sep']
  unfold restE
  refine BI.Entails.antisymm (show _ ⊢ (_ : sProp 𝕄) from ?_) (show _ ⊢ (_ : sProp 𝕄) from ?_)
  · iintro ⟨H1, H2, H3⟩
    isplitr [H2]
    · isplitl [H1] <;> iassumption
    iexact H2
  · iintro ⟨⟨H1, H3⟩, H2⟩
    isplitl [H1]; · iexact H1
    isplitl [H2] <;> iassumption

theorem chunk_rows (c : Dev nD) (k : Fin 8) (f : S512x1024.Idx → Elt F .f32) :
    (chP mG c k fullShare f : sProp 𝕄) = bigSep Finset.univ fun j : Fin 64 => gRow c (64 * k.val + j.val) f :=
  Ring.pointsTo_sub_blocks (ℓ := mG.view.loc (c : Thread nD τ)) (fun j : Fin 64 => rowSet (64 * k.val + j.val)) (rows_disjoint k) _ (set_chunk k) f

/-! ## One copy -/

/-- Row `r` of the gathered rows, read through its view, is the row of the half table that its copy reads. -/
theorem copied (c : Dev nD) {r : ℕ} {offS offD : Fin 2 → ℕ} (hS : ∀ a, offS a + S1x1024.size a ≤ S8192x1024.size a)
    (hD : ∀ a, offD a + S1x1024.size a ≤ S512x1024.size a) (eS : offS = ![srcRow I c r, 0]) (eD : offD = ![r, 0]) :
    (mG.slice (Rect.unit (s := S512x1024) offD S1x1024.size hD) (fun _ => rfl)).view.read (Elt F) (gV I c)
      = (mE.slice (Rect.unit (s := S8192x1024) offS S1x1024.size hS) (fun _ => rfl)).view.read (Elt F) (I.E c) := by
  subst eS eD
  funext x
  have h0 : (x 0).val < 1 := (x 0).isLt
  show gV I c ((Rect.unit (s := S512x1024) ![r, 0] S1x1024.size hD).idx x) = I.E c ((Rect.unit (s := S8192x1024) ![srcRow I c r, 0] S1x1024.size hS).idx x)
  unfold gV
  congr 1
  have e0 : ((Rect.unit (s := S512x1024) ![r, 0] S1x1024.size hD).idx x 0).val = r := by simp [LoadRect.idx]; omega
  funext a
  match a with
  | ⟨0, _⟩ => exact Fin.ext (by show srcRow I c _ = _; rw [e0]; simp [LoadRect.idx]; omega)
  | ⟨1, _⟩ => exact Fin.ext (by simp [LoadRect.idx, ix2])

/-- Issue copy `j` of chunk `k`. -/
theorem issue_one (c : Dev nD) (k : Fin 8) {j : ℕ} (hj : j < 64) {offS offD : Fin 2 → ℕ}
    (hS : ∀ a, offS a + S1x1024.size a ≤ S8192x1024.size a) (hD : ∀ a, offD a + S1x1024.size a ≤ S512x1024.size a)
    (eS : offS = ![srcRow I c (64 * k.val + j), 0]) (eD : offD = ![64 * k.val + j, 0])
    {h₁ h₂ h₃} {kk : PUnit → KProg F Unit} {Q : Unit → sProp 𝕄} :
    iprop(eRow I c (srcRow I c (64 * k.val + j)) (tok k j) ∗ (∃ f, gRow c (64 * k.val + j) f) ∗ bat I c k j 0)
      ⊢ iprop((bat I c k (j + 1) 0 -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma (mE.slice (Rect.unit (s := S8192x1024) offS S1x1024.size hS) (fun _ => rfl))
              (.here (mG.slice (Rect.unit (s := S512x1024) offD S1x1024.size hD) (fun _ => rfl))) (.dma (cell cc0_scratch5 k)) h₁ h₂ h₃) kk) Q) := by
  iintro ⟨HE, ⟨%f, HG⟩, HB⟩ Hk
  iapply (Transfers.wp_dmaBatch EC 𝒱₀ (c : Thread nD τ) none (src := mE.slice (Rect.unit (s := S8192x1024) offS S1x1024.size hS) (fun _ => rfl))
    (dst := mG.slice (Rect.unit (s := S512x1024) offD S1x1024.size hD) (fun _ => rfl)) (q := tok k j) (fs := I.E c)
    (Sd := rowSet (64 * k.val + j)) (fd := f) (D := Dl I c k) (j := j) (u := 0) () NR rfl (by rw [set_row hD eD]) hj (Nat.zero_le _)
    (by
      have hw := pts_written (c := (c : Thread nD τ)) (q := fullShare) (f := f) (copied I c hS hD eS eD)
      rw [set_row hD eD] at hw
      rw [set_eRow hS eS]
      unfold Dl
      iintro ⟨H1, H2⟩
      isplitl [H1]
      · iapply hw $$ H1
      iexact H2)) $$ [HE HG HB]
  · isplitl [HE]; · rw [set_eRow hS eS]; iexact HE
    isplitl [HG]; · iexact HG
    iexact HB
  iexact Hk

/-! ## The issue of a chunk -/

/-- Before trip `t`: `2t` copies issued; the rows and the tokens of the others in hand. -/
def issueInv (c : Dev nD) (k : Fin 8) (t : ℕ) (_ : Unit) : sProp 𝕄 :=
  iprop((mPk.view.loc (c : Thread nD τ) ↦{fullShare} I.pk c) ∗ bat I c k (2 * t) 0
    ∗ bigSep (Transfers.pending (2 * t)) fun j : Fin 64 => iprop(eRow I c (srcRow I c (64 * k.val + j.val)) (tok k j.val) ∗ ∃ f, gRow c (64 * k.val + j.val) f))

theorem word_eq (c : Dev nD) (k : Fin 8) (t : Fin k0_t1_loop.trips) (x : S1.Idx) (r : ℕ) (hr : r / 2 = 32 * k.val + t.val) :
    (mPk.access (Rect.unit (s := S512) (offW c k t) S1.size (offW_inb c k t))).read (Elt F) (I.pk c) x = I.pk c (wordOf c r) := by
  show I.pk c ((Rect.unit (s := S512) (offW c k t) S1.size (offW_inb c k t)).idx x) = _
  congr 1
  have ht : t.val < 32 := lt_of_lt_of_eq t.isLt trips32
  have h0 : (x 0).val < 1 := (x 0).isLt
  have hc : c.val < 4 := c.isLt
  have e : offW c k t 0 = 256 * (c.val / 2) + 32 * k.val + t.val := congrFun (offW_eq c k t) 0
  funext a
  match a with
  | ⟨0, _⟩ => exact Fin.ext (by show offW c k t 0 + 1 * (x 0).val = (256 * (c.val / 2) + r / 2) % 512; rw [e, hr]; omega)

theorem off3_row (c : Dev nD) {r : ℕ} (hr : r % 2 = 0) : k0_off3 (I.pk c (wordOf c r)) = ![srcRow I c r, 0] := by
  unfold srcRow; rw [if_pos hr]; funext a
  match a with
  | ⟨0, _⟩ => rfl
  | ⟨1, _⟩ => rfl
theorem off5_row (c : Dev nD) {r : ℕ} (hr : r % 2 ≠ 0) : k0_off5 (I.pk c (wordOf c r)) = ![srcRow I c r, 0] := by
  unfold srcRow; rw [if_neg hr]; funext a
  match a with
  | ⟨0, _⟩ => rfl
  | ⟨1, _⟩ => rfl

theorem issue_step (c : Dev nD) (k : Fin 8) (t : Fin k0_t1_loop.trips) (acc : Unit) :
    issueInv I c k t.val acc ⊢ wp frame (wpE (defs₀ (F := F)) 𝒱₀ (c : Thread nD τ) none) Set.univ (issueTrip c k t acc) (issueInv I c k (t.val + 1)) := by
  have ht : t.val < 32 := lt_of_lt_of_eq t.isLt trips32
  unfold issueInv
  rw [Transfers.bigSep_pending_step _ (2 * t.val) (by omega), Transfers.bigSep_pending_step _ (2 * t.val + 1) (by omega),
    show 2 * (t.val + 1) = 2 * t.val + 1 + 1 by omega]
  have hw : k0_chk1 ((mPk.access (Rect.unit (s := S512) (offW c k t) S1.size (offW_inb c k t))).read (Elt F) (I.pk c) (Shape.Idx.first (numel1_S1.symm ▸ Nat.one_pos))) := by
    rw [word_eq I c k t _ (64 * k.val + 2 * t.val) (by omega)]; exact I.chk c _
  iintro ⟨Hpk, HB, ⟨HE0, HG0⟩, ⟨HE1, HG1⟩, Hrest⟩
  sl_unfold [issueTrip]
  simp only [smemLoad, smemLoadElt, Prog.bind, Prog.lift]
  iapply (wp_load_rect 𝒱₀ (c : Thread nD τ) none Set.univ (m := mPk) (r := Rect.unit (s := S512) (offW c k t) S1.size (offW_inb c k t)) (S := Finset.univ) (Finset.subset_univ _)) $$ Hpk
  iintro Hpk
  iapply (wp_assume 𝒱₀ (c : Thread nD τ) none Set.univ hw)
  iapply (issue_one I c k (j := 2 * t.val) (by omega) (k0_off3_inb _ hw) (offLo_inb k t)
    (by rw [word_eq I c k t _ (64 * k.val + 2 * t.val) (by omega)]; exact off3_row I c (by omega)) (offLo_eq k t)) $$ [HE0 HG0 HB]
  · isplitl [HE0]; · iexact HE0
    isplitl [HG0] <;> iassumption
  iintro HB
  iapply (issue_one I c k (j := 2 * t.val + 1) (by omega) (k0_off5_inb _ hw) (offHi_inb k t)
    (by rw [word_eq I c k t _ (64 * k.val + (2 * t.val + 1)) (by omega)]; exact off5_row I c (by omega)) (offHi_eq k t)) $$ [HE1 HG1 HB]
  · isplitl [HE1]; · iexact HE1
    isplitl [HG1] <;> iassumption
  iintro HB
  simp only [Prog.bind]
  sl_step
  isplitl [Hpk]; · iexact Hpk
  isplitl [HB]; · iexact HB
  iexact Hrest

theorem issueP_spec (c : Dev nD) (k : Fin 8) (Kt : Unit → sProp 𝕄) :
    iprop((mPk.view.loc (c : Thread nD τ) ↦{fullShare} I.pk c) ∗ semVal (gC k c) 0 ∗ eTok I c k ∗ chAny mG c k
        ∗ (iprop((mPk.view.loc (c : Thread nD τ) ↦{fullShare} I.pk c) ∗ flight I c k) -∗ Kt ⟨⟩))
      ⊢ wp frame (wpE (defs₀ (F := F)) 𝒱₀ (c : Thread nD τ) none) Set.univ (issueP c k) Kt := by
  iintro ⟨Hpk, Hs, HE, ⟨%f, HG⟩, Hk⟩
  imod (Transfers.batch_alloc' EC (c : Thread nD τ) () NR (Dl I c k) (sm := .dma (cell cc0_scratch5 k)) (E := Set.univ)) $$ Hs with HB
  icases (Entails.of_eq (eTok_split I c k)) $$ HE with ⟨HR, HE⟩
  unfold issueP
  iapply (Scf.wp_for _ _ _ _ _ _ _ _ _ (issueInv I c k) (issue_step I c k))
  isplitr [HR Hk]
  · unfold issueInv
    isplitl [Hpk]; · iexact Hpk
    isplitl [HB]; · iexact HB
    rw [Nat.mul_zero, Transfers.pending_zero, bigSep_sep']
    isplitl [HE]; · iexact HE
    ihave HG := (Entails.of_eq (chunk_rows c k f)) $$ HG
    iapply (show bigSep Finset.univ (fun j : Fin 64 => gRow c (64 * k.val + j.val) f) ⊢ bigSep Finset.univ (fun j : Fin 64 => iprop(∃ f, gRow c (64 * k.val + j.val) f))
      from bigSep_mono fun j _ => (show gRow c (64 * k.val + j.val) f ⊢ iprop(∃ f, gRow c (64 * k.val + j.val) f) by iintro H; iexists f; iexact H)) $$ HG
  · iintro %acc HI
    unfold issueInv
    icases HI with ⟨Hpk, HB, -⟩
    iapply Hk
    isplitl [Hpk]; · iexact Hpk
    unfold flight
    isplitl [HB]
    · rw [show (64 : ℕ) = 2 * k0_t1_loop.trips by rw [trips32]]; iexact HB
    iexact HR

/-! ## The drain of a chunk -/

/-- What a drained chunk leaves: the share of the half table, the gathered rows, the cell at zero. -/
def drained (c : Dev nD) (k : Fin 8) : sProp 𝕄 := iprop(semVal (gC k c) 0 ∗ bigSep Finset.univ (Dl I c k))

/-- Before trip `t`: `t` rows' units waited for; after the last, everything back. -/
def drainInv (c : Dev nD) (k : Fin 8) (ny nx : ℕ) (t : ℕ) (_ : Unit) : sProp 𝕄 :=
  iprop(levAts L lv ∗ (∃ W, owes (c : Thread nD τ) (oC c ny nx) W) ∗ (if t < 64 then bat I c k 64 (t * NR) else drained I c k))

theorem drain_step (c : Dev nD) (k : Fin 8) (ny nx : ℕ) (t : Fin k0_t3_loop.trips) (acc : Unit) :
    drainInv I c k ny nx t.val acc ⊢ wp frame (wpE (defs₀ (F := F)) 𝒱₀ (c : Thread nD τ) none) Set.univ (drainTrip k t acc) (drainInv I c k ny nx (t.val + 1)) := by
  have ht : t.val < 64 := lt_of_lt_of_eq t.isLt trips64
  have hN := NR_pos
  have hmw : levAts L lv ⊢ (MayWait (c : Thread nD τ) (.dma (cell cc0_scratch5 k)) () (oC c ny nx) : sProp 𝕄) :=
    mayWait c (.dma (cell cc0_scratch5 k)) ny nx
      (by rw [show ((c : Thread nD τ), SemLoc.dma (cell cc0_scratch5 k)) = gC k c from rfl, lv_g]; omega)
      (by rw [show ((c : Thread nD τ), SemLoc.dma (cell cc0_scratch5 k)) = gC k c from rfl, lv_g]; omega)
  unfold drainInv
  rw [if_pos ht]
  rcases Nat.lt_or_ge (t.val + 1) 64 with h1 | h1
  · rw [if_pos h1]
    iintro ⟨#Hlev, ⟨%W, HO⟩, HB⟩
    sl_unfold [drainTrip]
    iapply (Transfers.wp_waitBatchO EC 𝒱₀ (c : Thread nD τ) none
      (srcw := mE.slice (Rect.unit (s := S8192x1024) ![0, 0] S1x1024.size inb_S8192x1024_S1x1024_0_0) (fun _ => rfl))
      (dstw := mG.slice (Rect.unit (s := S512x1024) ![0, 0] S1x1024.size inb_S512x1024_S1x1024_0_0) (fun _ => rfl)) () (N := NR) rfl
      (D := Dl I c k) (u := t.val * NR) (by rw [← Nat.succ_mul, Nat.mul_comm NR]; exact Nat.mul_lt_mul_of_pos_right h1 hN) (O := oC c ny nx) (W := W)) $$ [HB HO]
    · isplitl [HB]; · iexact HB
      isplitl [HO]; · iexact HO
      iapply hmw $$ Hlev
    iintro ⟨HB, HO⟩
    simp only [Prog.bind]
    sl_step
    isplitl []; · iexact Hlev
    isplitl [HO]; · iexists _; iexact HO
    rw [Nat.add_mul, Nat.one_mul]
    iexact HB
  · rw [if_neg (by omega)]
    iintro ⟨#Hlev, ⟨%W, HO⟩, HB⟩
    sl_unfold [drainTrip]
    iapply (Transfers.wp_waitBatchLastO EC 𝒱₀ (c : Thread nD τ) none
      (srcw := mE.slice (Rect.unit (s := S8192x1024) ![0, 0] S1x1024.size inb_S8192x1024_S1x1024_0_0) (fun _ => rfl))
      (dstw := mG.slice (Rect.unit (s := S512x1024) ![0, 0] S1x1024.size inb_S512x1024_S1x1024_0_0) (fun _ => rfl)) () (N := NR) rfl hN
      (D := Dl I c k) (u := t.val * NR) (by rw [show t.val = 63 by omega, ← Nat.succ_mul, Nat.mul_comm NR]) (O := oC c ny nx) (W := W)) $$ [HB HO]
    · isplitl [HB]; · iexact HB
      isplitl [HO]; · iexact HO
      iapply hmw $$ Hlev
    iintro ⟨HD, Hv, HO⟩
    simp only [Prog.bind]
    sl_step
    isplitl []; · iexact Hlev
    isplitl [HO]; · iexists _; iexact HO
    unfold drained
    isplitl [Hv] <;> iassumption

theorem drainP_spec (c : Dev nD) (k : Fin 8) (ny nx : ℕ) (Kt : Unit → sProp 𝕄) :
    iprop(levAts L lv ∗ flight I c k ∗ (∃ W, owes (c : Thread nD τ) (oC c ny nx) W)
        ∗ (iprop(semVal (gC k c) 0 ∗ eTok I c k ∗ chP mG c k fullShare (gV I c) ∗ ∃ W, owes (c : Thread nD τ) (oC c ny nx) W) -∗ Kt ⟨⟩))
      ⊢ wp frame (wpE (defs₀ (F := F)) 𝒱₀ (c : Thread nD τ) none) Set.univ (drainP k) Kt := by
  iintro ⟨#Hlev, HF, HO, Hk⟩
  unfold flight drainP
  icases HF with ⟨HB, HR⟩
  iapply (Scf.wp_for _ _ _ _ _ _ _ _ _ (drainInv I c k ny nx) (drain_step I c k ny nx))
  isplitr [HR Hk]
  · unfold drainInv
    isplitl []; · iexact Hlev
    isplitl [HO]; · iexact HO
    rw [if_pos (by decide), Nat.zero_mul]
    iexact HB
  · iintro %acc HI
    have e : Scf.trips k0_t3_loop.lb k0_t3_loop.ub k0_t3_loop.st = 64 := trips64
    unfold drainInv
    rw [e, if_neg (by decide)]
    icases HI with ⟨-, HO, HD⟩
    unfold drained Dl
    icases HD with ⟨Hv, HD⟩
    icases (Entails.of_eq (bigSep_sep' _ _ _)) $$ HD with ⟨HG, HE⟩
    iapply Hk
    isplitl [Hv]; · iexact Hv
    isplitl [HR HE]
    · iapply (Entails.of_eq (eTok_split I c k).symm)
      isplitl [HR] <;> iassumption
    isplitl [HG]
    · iapply (Entails.of_eq (chunk_rows c k (gV I c)).symm) $$ HG
    iexact HO

end Cert.Proof.Lookup

end
-- ==== Proof.Blocks.lean ====
/- The buffers by blocks: a buffer of 512 rows by its chunks, the result by the rows that the core sums and those that come
   along x, the half table by the chunks' shares. -/
module

public import proofs.«01_k».proof.Proof.Gather

@[expose] public section

noncomputable section

namespace Cert.Proof.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

variable (I : Ins F)

/-! ## A buffer of 512 rows by its chunks -/

theorem mem_rc (k : Fin 8) (y : S512x1024.Idx) : y ∈ (rc k).set ↔ 64 * k.val ≤ (y 0).val ∧ (y 0).val < 64 * k.val + 64 := by
  have h1 : (y 1).val < 1024 := (y 1).isLt
  rw [Rect.mem_set_unit]
  constructor
  · intro H; exact H 0
  · intro H a
    match a with
    | ⟨0, _⟩ => exact H
    | ⟨1, _⟩ => show 0 ≤ (y 1).val ∧ (y 1).val < 0 + 1024; omega
theorem rc_disjoint : ∀ k k' : Fin 8, k ≠ k' → Disjoint (rc k).set (rc k').set := fun k k' hne => by
  rw [Finset.disjoint_left]; intro y hy hy'
  have a := (mem_rc k y).mp hy; have b := (mem_rc k' y).mp hy'
  exact hne (Fin.ext (by omega))
theorem rc_cover : Finset.univ.biUnion (fun k : Fin 8 => (rc k).set) = Finset.univ := by
  ext y
  have h0 : (y 0).val < 512 := (y 0).isLt
  rw [Finset.mem_biUnion]
  refine ⟨fun _ => Finset.mem_univ _, fun _ => ⟨⟨(y 0).val / 64, by omega⟩, Finset.mem_univ _, (mem_rc _ _).mpr ⟨?_, ?_⟩⟩⟩
  · show 64 * ((y 0).val / 64) ≤ _; omega
  · show _ < 64 * ((y 0).val / 64) + 64; omega

variable (c : Dev nD) (q : PosShare TreeShare)

theorem chunks_G (f : S512x1024.Idx → Elt F .f32) : (mG.view.loc (c : Thread nD τ) ↦{q} f : sProp 𝕄) = bigSep Finset.univ fun k : Fin 8 => chP mG c k q f := by
  rw [Ring.pointsTo_blocks (ℓ := mG.view.loc (c : Thread nD τ)) (fun k : Fin 8 => (rc k).set) rc_disjoint rc_cover f]
  exact bigSep_congr fun k _ => congrArg (fun S : Finset S512x1024.Idx => (mG.view.loc (c : Thread nD τ) ↦[S]{q} f : sProp 𝕄)) (View.set_slice_whole _ _).symm
theorem chunks_Ys (f : S512x1024.Idx → Elt F .bf16) : (mYs.view.loc (c : Thread nD τ) ↦{q} f : sProp 𝕄) = bigSep Finset.univ fun k : Fin 8 => chP mYs c k q f := by
  rw [Ring.pointsTo_blocks (ℓ := mYs.view.loc (c : Thread nD τ)) (fun k : Fin 8 => (rc k).set) rc_disjoint rc_cover f]
  exact bigSep_congr fun k _ => congrArg (fun S : Finset S512x1024.Idx => (mYs.view.loc (c : Thread nD τ) ↦[S]{q} f : sProp 𝕄)) (View.set_slice_whole _ _).symm
theorem chunks_Yr (f : S512x1024.Idx → Elt F .bf16) : (mYr.view.loc (c : Thread nD τ) ↦{q} f : sProp 𝕄) = bigSep Finset.univ fun k : Fin 8 => chP mYr c k q f := by
  rw [Ring.pointsTo_blocks (ℓ := mYr.view.loc (c : Thread nD τ)) (fun k : Fin 8 => (rc k).set) rc_disjoint rc_cover f]
  exact bigSep_congr fun k _ => congrArg (fun S : Finset S512x1024.Idx => (mYr.view.loc (c : Thread nD τ) ↦[S]{q} f : sProp 𝕄)) (View.set_slice_whole _ _).symm
theorem chunks_Xs (f : S512x1024.Idx → Elt F .bf16) : (mXs.view.loc (c : Thread nD τ) ↦{q} f : sProp 𝕄) = bigSep Finset.univ fun k : Fin 8 => chP mXs c k q f := by
  rw [Ring.pointsTo_blocks (ℓ := mXs.view.loc (c : Thread nD τ)) (fun k : Fin 8 => (rc k).set) rc_disjoint rc_cover f]
  exact bigSep_congr fun k _ => congrArg (fun S : Finset S512x1024.Idx => (mXs.view.loc (c : Thread nD τ) ↦[S]{q} f : sProp 𝕄)) (View.set_slice_whole _ _).symm
theorem chunks_Xr (f : S512x1024.Idx → Elt F .bf16) : (mXr.view.loc (c : Thread nD τ) ↦{q} f : sProp 𝕄) = bigSep Finset.univ fun k : Fin 8 => chP mXr c k q f := by
  rw [Ring.pointsTo_blocks (ℓ := mXr.view.loc (c : Thread nD τ)) (fun k : Fin 8 => (rc k).set) rc_disjoint rc_cover f]
  exact bigSep_congr fun k _ => congrArg (fun S : Finset S512x1024.Idx => (mXr.view.loc (c : Thread nD τ) ↦[S]{q} f : sProp 𝕄)) (View.set_slice_whole _ _).symm

/-- Chunks at given contents are chunks at some contents. -/
theorem chunks_any {e : EltTy} (b : Memref sig .tc .vmem S512x1024 e) (f : (k : Fin 8) → Buf (Elt F) ((chunk b k).view.loc (c : Thread nD τ))) :
    (bigSep Finset.univ fun k : Fin 8 => (chP b c k fullShare (f k) : sProp 𝕄)) ⊢ bigSep Finset.univ fun k : Fin 8 => chAny b c k :=
  bigSep_mono fun k _ => (show chP b c k fullShare (f k) ⊢ (chAny b c k : sProp 𝕄) by iintro H; iexists f k; iexact H)

/-! ## The result by its blocks -/

theorem mem_rA (k : Fin 8) (y : S1024x1024.Idx) :
    y ∈ (rA c k).set ↔ 512 * (c.val / 2) + 64 * k.val ≤ (y 0).val ∧ (y 0).val < 512 * (c.val / 2) + 64 * k.val + 64 := by
  have h1 : (y 1).val < 1024 := (y 1).isLt
  have e0 : k0_off17 c (BitVec.ofNat 32 (64 * k.val)) 0 = 512 * (c.val / 2) + 64 * k.val := congrFun (k0_off17_eq c k) 0
  have e1 : k0_off17 c (BitVec.ofNat 32 (64 * k.val)) 1 = 0 := congrFun (k0_off17_eq c k) 1
  rw [Rect.mem_set_unit]
  constructor
  · intro H
    have a0 : k0_off17 c (BitVec.ofNat 32 (64 * k.val)) 0 ≤ (y 0).val ∧ (y 0).val < k0_off17 c (BitVec.ofNat 32 (64 * k.val)) 0 + 64 := H 0
    rwa [e0] at a0
  · intro H a
    match a with
    | ⟨0, _⟩ =>
      show k0_off17 c (BitVec.ofNat 32 (64 * k.val)) 0 ≤ (y 0).val ∧ (y 0).val < k0_off17 c (BitVec.ofNat 32 (64 * k.val)) 0 + 64
      rwa [e0]
    | ⟨1, _⟩ =>
      show k0_off17 c (BitVec.ofNat 32 (64 * k.val)) 1 ≤ (y 1).val ∧ (y 1).val < k0_off17 c (BitVec.ofNat 32 (64 * k.val)) 1 + 1024
      rw [e1]; omega
theorem mem_rB (k : Fin 8) (y : S1024x1024.Idx) :
    y ∈ (rB c k).set ↔ (64 * k.val + 512) - 512 * (c.val / 2) ≤ (y 0).val ∧ (y 0).val < (64 * k.val + 512) - 512 * (c.val / 2) + 64 := by
  have h1 : (y 1).val < 1024 := (y 1).isLt
  have e0 : k0_off23 c (BitVec.ofNat 32 (64 * k.val)) 0 = (64 * k.val + 512) - 512 * (c.val / 2) := congrFun (k0_off23_eq c k) 0
  have e1 : k0_off23 c (BitVec.ofNat 32 (64 * k.val)) 1 = 0 := congrFun (k0_off23_eq c k) 1
  rw [Rect.mem_set_unit]
  constructor
  · intro H
    have a0 : k0_off23 c (BitVec.ofNat 32 (64 * k.val)) 0 ≤ (y 0).val ∧ (y 0).val < k0_off23 c (BitVec.ofNat 32 (64 * k.val)) 0 + 64 := H 0
    rwa [e0] at a0
  · intro H a
    match a with
    | ⟨0, _⟩ =>
      show k0_off23 c (BitVec.ofNat 32 (64 * k.val)) 0 ≤ (y 0).val ∧ (y 0).val < k0_off23 c (BitVec.ofNat 32 (64 * k.val)) 0 + 64
      rwa [e0]
    | ⟨1, _⟩ =>
      show k0_off23 c (BitVec.ofNat 32 (64 * k.val)) 1 ≤ (y 1).val ∧ (y 1).val < k0_off23 c (BitVec.ofNat 32 (64 * k.val)) 1 + 1024
      rw [e1]; omega

theorem rA_disjoint : ∀ k k' : Fin 8, k ≠ k' → Disjoint (rA c k).set (rA c k').set := fun k k' hne => by
  rw [Finset.disjoint_left]; intro y hy hy'
  have a := (mem_rA c k y).mp hy; have b := (mem_rA c k' y).mp hy'
  exact hne (Fin.ext (by omega))
theorem rB_disjoint : ∀ k k' : Fin 8, k ≠ k' → Disjoint (rB c k).set (rB c k').set := fun k k' hne => by
  have hc : c.val < 4 := c.isLt
  rw [Finset.disjoint_left]; intro y hy hy'
  have a := (mem_rB c k y).mp hy; have b := (mem_rB c k' y).mp hy'
  exact hne (Fin.ext (by omega))
/-- The rows that the core sums. -/
def setA : Finset S1024x1024.Idx := Finset.univ.biUnion fun k : Fin 8 => (rA c k).set
theorem rB_cover : Finset.univ.biUnion (fun k : Fin 8 => (rB c k).set) = Finset.univ \ setA c := by
  ext y
  have h0 : (y 0).val < 1024 := (y 0).isLt
  have hc : c.val < 4 := c.isLt
  unfold setA
  rw [Finset.mem_biUnion, Finset.mem_sdiff, Finset.mem_biUnion]
  constructor
  · rintro ⟨k, -, H⟩
    refine ⟨Finset.mem_univ _, ?_⟩
    rintro ⟨k', -, H'⟩
    have a := (mem_rB c k y).mp H; have b := (mem_rA c k' y).mp H'
    have := k.isLt; have := k'.isLt
    omega
  · rintro ⟨-, H⟩
    have hn : ¬ (512 * (c.val / 2) ≤ (y 0).val ∧ (y 0).val < 512 * (c.val / 2) + 512) := fun hh =>
      H ⟨⟨((y 0).val - 512 * (c.val / 2)) / 64, by omega⟩, Finset.mem_univ _, (mem_rA c _ y).mpr
        ⟨by show 512 * (c.val / 2) + 64 * (((y 0).val - 512 * (c.val / 2)) / 64) ≤ _; omega,
          by show _ < 512 * (c.val / 2) + 64 * (((y 0).val - 512 * (c.val / 2)) / 64) + 64; omega⟩⟩
    refine ⟨⟨((y 0).val % 512) / 64, by omega⟩, Finset.mem_univ _, (mem_rB c _ y).mpr ⟨?_, ?_⟩⟩
    · show (64 * (((y 0).val % 512) / 64) + 512) - 512 * (c.val / 2) ≤ _; omega
    · show _ < (64 * (((y 0).val % 512) / 64) + 512) - 512 * (c.val / 2) + 64; omega

/-- The result is its sixteen blocks. -/
theorem blocks_out (f : S1024x1024.Idx → Elt F .f32) : (mOut.view.loc (c : Thread nD τ) ↦{fullShare} f : sProp 𝕄)
    = iprop((bigSep Finset.univ fun k : Fin 8 => oP c (rA c k) f) ∗ bigSep Finset.univ fun k : Fin 8 => oP c (rB c k) f) := by
  have hA := Ring.pointsTo_sub_blocks (Ix := Unit) (Name := ℕ) (U := UU) (Lvl := ℕ) (ℓ := mOut.view.loc (c : Thread nD τ)) (fun k : Fin 8 => (rA c k).set) (rA_disjoint c) (setA c) rfl (q := fullShare) f
  have hB := Ring.pointsTo_sub_blocks (Ix := Unit) (Name := ℕ) (U := UU) (Lvl := ℕ) (ℓ := mOut.view.loc (c : Thread nD τ)) (fun k : Fin 8 => (rB c k).set) (rB_disjoint c) (Finset.univ \ setA c) (rB_cover c) (q := fullShare) f
  have h := pointsTo_split_subset (Ix := Unit) (Name := ℕ) (U := UU) (Lvl := ℕ) (ℓ := mOut.view.loc (c : Thread nD τ)) (q := fullShare) (f := f) (Finset.subset_univ (setA c))
  rw [show (bigSep Finset.univ fun k : Fin 8 => (oP c (rA c k) f : sProp 𝕄)) = bigSep Finset.univ fun k : Fin 8 => mOut.view.loc (c : Thread nD τ) ↦[(rA c k).set]{fullShare} f
      from bigSep_congr fun k _ => congrArg (fun S : Finset S1024x1024.Idx => (mOut.view.loc (c : Thread nD τ) ↦[S]{fullShare} f : sProp 𝕄)) (View.set_slice_whole _ _),
    show (bigSep Finset.univ fun k : Fin 8 => (oP c (rB c k) f : sProp 𝕄)) = bigSep Finset.univ fun k : Fin 8 => mOut.view.loc (c : Thread nD τ) ↦[(rB c k).set]{fullShare} f
      from bigSep_congr fun k _ => congrArg (fun S : Finset S1024x1024.Idx => (mOut.view.loc (c : Thread nD τ) ↦[S]{fullShare} f : sProp 𝕄)) (View.set_slice_whole _ _)]
  refine (BI.Entails.antisymm h.1 h.2).trans ?_
  rw [hA, hB]

theorem blocks_anyA (f : S1024x1024.Idx → Elt F .f32) :
    (bigSep Finset.univ fun k : Fin 8 => (oP c (rA c k) f : sProp 𝕄)) ⊢ bigSep Finset.univ fun k : Fin 8 => iprop(∃ f, oP c (rA c k) f) :=
  bigSep_mono fun k _ => (show (oP c (rA c k) f : sProp 𝕄) ⊢ iprop(∃ f, oP c (rA c k) f) by iintro H; iexists f; iexact H)
theorem blocks_anyB (f : S1024x1024.Idx → Elt F .f32) :
    (bigSep Finset.univ fun k : Fin 8 => (oP c (rB c k) f : sProp 𝕄)) ⊢ bigSep Finset.univ fun k : Fin 8 => iprop(∃ f, oP c (rB c k) f) :=
  bigSep_mono fun k _ => (show (oP c (rB c k) f : sProp 𝕄) ⊢ iprop(∃ f, oP c (rB c k) f) by iintro H; iexists f; iexact H)

/-! ## The half table by the chunks' shares -/

/-- What of the half table no chunk takes. -/
def keptE : sProp 𝕄 := mE.view.loc (c : Thread nD τ) ↦{Transfers.shareDrop fullShare 8} I.E c
theorem table_toks : (mE.view.loc (c : Thread nD τ) ↦{fullShare} I.E c : sProp 𝕄) = iprop(keptE I c ∗ bigSep Finset.univ fun k : Fin 8 => eTok I c k) := by
  have h := Transfers.pointsTo_toks (nD := nD) (τ := τ) (sig := sig) (Ix := Unit) (Val := Elt F) (Name := ℕ) (U := UU) (Lvl := ℕ)
    (ℓ := mE.view.loc (c : Thread nD τ)) (S := Finset.univ) (f := I.E c) fullShare 8
  exact BI.Entails.antisymm h.1 h.2

end Cert.Proof.Lookup

end
-- ==== Proof.Body.lean ====
/- The kernel's body: its phases in sequence, each moving one chunk one stage on. -/
module

public import proofs.«01_k».proof.Proof.Blocks

@[expose] public section

noncomputable section

namespace Cert.Proof.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

variable (I : Ins F) (K : GSem nD τ sig → ℕ)

/-! ## What belongs to one chunk, by its stage -/

/-- Gathering: before, after. -/
def gReady (c : Dev nD) (k : Fin 8) : sProp 𝕄 := iprop(semVal (gC k c) 0 ∗ eTok I c k ∗ chAny mG c k)
def gDone (c : Dev nD) (k : Fin 8) : sProp 𝕄 := iprop(semVal (gC k c) 0 ∗ eTok I c k ∗ chP mG c k fullShare (gV I c))
/-- Sending along y, before. -/
def yPart (c : Dev nD) (k : Fin 8) : sProp 𝕄 :=
  iprop(chAny mYs c k ∗ chAny mYr (devY c) k ∗ dutyTok ER (ysC k c) 0 false ∗ reached ER (ysC k c) 0
    ∗ dutyTok ER (yrC k (devY c)) 0 false ∗ reached ER (yrC k (devY c)) 0)
/-- Receiving along y and sending along x, before. -/
def xPart (c : Dev nD) (k : Fin 8) : sProp 𝕄 :=
  iprop(chAny mXs c k ∗ chAny mXr (devX c) k ∗ (∃ f, oP c (rA c k) f) ∗ cred (tallyAt (yrC k c) () NC) ∗ atPos ER (yrC k c) 0 ∅ 0
    ∗ dutyTok ER (xsC k c) 0 false ∗ reached ER (xsC k c) 0 ∗ dutyTok ER (xrC k (devX c)) 0 false ∗ reached ER (xrC k (devX c)) 0)
/-- Receiving along x, before and after. -/
def zPart (c : Dev nD) (k : Fin 8) : sProp 𝕄 :=
  iprop((∃ f, oP c (rB c k) f) ∗ cred (tallyAt (xrC k c) () NC) ∗ atPos ER (xrC k c) 0 ∅ 0)
def zDone (c : Dev nD) (k : Fin 8) : sProp 𝕄 :=
  iprop(chP mXr c k fullShare (xsV I (devX c)) ∗ oP c (rB c k) (outV I c) ∗ semVal (xrC k c) 0)
/-- The positions of the two send cells. -/
def posS (c : Dev nD) (k : Fin 8) : sProp 𝕄 := iprop(atPos ER (ysC k c) 0 ∅ 0 ∗ atPos ER (xsC k c) 0 ∅ 0)
/-- What of chunk `k` the core keeps once it has received along y. -/
def yKept (c : Dev nD) (k : Fin 8) : sProp 𝕄 :=
  iprop(chP mYs c k fullShare.right (ysV I c) ∗ chP mYr c k fullShare (ysV I (devY c)) ∗ oP c (rA c k) (outV I c) ∗ semVal (yrC k c) 0)

/-- Chunk `k` with nothing done; copies issued; rows gathered; sent along y; summed and sent along x; received along x; both sends waited for. -/
def S0 (c : Dev nD) (k : Fin 8) : sProp 𝕄 := iprop(gReady I c k ∗ yPart c k ∗ xPart c k ∗ zPart c k ∗ posS c k)
def S1 (c : Dev nD) (k : Fin 8) : sProp 𝕄 := iprop(flight I c k ∗ yPart c k ∗ xPart c k ∗ zPart c k ∗ posS c k)
def S2 (c : Dev nD) (k : Fin 8) : sProp 𝕄 := iprop(gDone I c k ∗ yPart c k ∗ xPart c k ∗ zPart c k ∗ posS c k)
def S3 (c : Dev nD) (k : Fin 8) : sProp 𝕄 :=
  iprop(gDone I c k ∗ (chP mYs c k fullShare.right (ysV I c) ∗ cred (tallyAt (ysC k c) () NC)) ∗ xPart c k ∗ zPart c k ∗ posS c k)
def S4 (c : Dev nD) (k : Fin 8) : sProp 𝕄 :=
  iprop(gDone I c k ∗ yKept I c k ∗ (cred (tallyAt (ysC k c) () NC) ∗ cred (tallyAt (xsC k c) () NC)) ∗ zPart c k ∗ posS c k)
def S5 (c : Dev nD) (k : Fin 8) : sProp 𝕄 :=
  iprop(gDone I c k ∗ yKept I c k ∗ (cred (tallyAt (ysC k c) () NC) ∗ cred (tallyAt (xsC k c) () NC)) ∗ zDone I c k ∗ posS c k)
def S6 (c : Dev nD) (k : Fin 8) : sProp 𝕄 :=
  iprop(gDone I c k ∗ yKept I c k ∗ (chP mYs c k fullShare.left (ysV I c) ∗ chP mXs c k fullShare (xsV I c)) ∗ zDone I c k
    ∗ (semVal (ysC k c) 0 ∗ semVal (xsC k c) 0))
/-- Chunk `k` at a stage. -/
def St (c : Dev nD) (k : Fin 8) : ℕ → sProp 𝕄
  | 0 => S0 I c k | 1 => S1 I c k | 2 => S2 I c k | 3 => S3 I c k | 4 => S4 I c k | 5 => S5 I c k | _ => S6 I c k

theorem st0 (c : Dev nD) (k : Fin 8) : St I c k 0 = S0 I c k := rfl
theorem st1 (c : Dev nD) (k : Fin 8) : St I c k 1 = S1 I c k := rfl
theorem st2 (c : Dev nD) (k : Fin 8) : St I c k 2 = S2 I c k := rfl
theorem st3 (c : Dev nD) (k : Fin 8) : St I c k 3 = S3 I c k := rfl
theorem st4 (c : Dev nD) (k : Fin 8) : St I c k 4 = S4 I c k := rfl
theorem st5 (c : Dev nD) (k : Fin 8) : St I c k 5 = S5 I c k := rfl
theorem st6 (c : Dev nD) (k : Fin 8) : St I c k 6 = S6 I c k := rfl

/-- All of the core: the chunks at their stages, `ny` sends made along y and `nx` along x, a frame. -/
def Cs (R : sProp 𝕄) (c : Dev nD) (s : Fin 8 → ℕ) (ny nx : ℕ) : sProp 𝕄 :=
  iprop(recs I K ∗ levAts L lv ∗ (mPk.view.loc (c : Thread nD τ) ↦{fullShare} I.pk c) ∗ (mIds.view.loc (c : Thread nD τ) ↦{fullShare} I.ids c)
    ∗ (∃ W, owes (c : Thread nD τ) (oC c ny nx) W) ∗ R ∗ bigSep Finset.univ fun k : Fin 8 => St I c k (s k))

/-- Chunk `k` taken out and put back one stage on. -/
theorem chunk_step (c : Dev nD) (s : Fin 8 → ℕ) (k : Fin 8) (n n' : ℕ) {A B : sProp 𝕄} (h : s k = n) (hA : St I c k n = A) (hB : St I c k n' = B) :
    (bigSep Finset.univ fun j : Fin 8 => St I c j (s j))
      ⊢ iprop(A ∗ (B -∗ bigSep Finset.univ fun j : Fin 8 => St I c j (Function.update s k n' j))) := by
  rw [bigSep_univ_at _ k, bigSep_univ_at (fun j : Fin 8 => St I c j (Function.update s k n' j)) k, h, Function.update_self, hA, hB,
    bigSep_congr (s := Finset.univ.erase k) (Φ := fun j : Fin 8 => St I c j (Function.update s k n' j)) (Ψ := fun j : Fin 8 => St I c j (s j))
      (fun j hj => by rw [Function.update_of_ne (Finset.ne_of_mem_erase hj)])]
  iintro ⟨H, HR⟩
  isplitl [H]; · iexact H
  iintro H
  isplitl [H] <;> iassumption

/-- The weakest precondition of a program run by core `c`. -/
abbrev runs {α : Type} (c : Dev nD) (p : KProg F α) (Q : α → sProp 𝕄) : sProp 𝕄 :=
  wp frame (wpE (defs₀ (F := F)) 𝒱₀ (c : Thread nD τ) none) Set.univ p Q

/-- Running a phase, then the rest. -/
theorem seq_step (c : Dev nD) {α : Type} {p : KProg F α} {q : α → KProg F PUnit} {A B : sProp 𝕄} {Q : PUnit → sProp 𝕄}
    (hp : A ⊢ runs c p (fun _ => B)) (hq : ∀ a, B ⊢ runs c (q a) Q) : A ⊢ runs c (p >>= q) Q := by
  unfold runs at *
  rw [wp_bind]
  refine hp.trans (wp_mono _ _ _ fun a => hq a)

theorem issueS (R : sProp 𝕄) (c : Dev nD) (s : Fin 8 → ℕ) (ny nx : ℕ) (k : Fin 8) (h : s k = 0) :
    Cs I K R c s ny nx ⊢ runs c (issueP c k) (fun _ => Cs I K R c (Function.update s k 1) ny nx) := by
  unfold Cs runs
  iintro ⟨#HR, #Hlev, Hpk, Hids, HO, HF, HS⟩
  ihave HT := (chunk_step I c s k 0 1 h (st0 I c k) (st1 I c k)) $$ HS
  icases HT with ⟨H, Hput⟩
  unfold S0 S1 gReady
  icases H with ⟨⟨Hv, HE, HG⟩, Hrest⟩
  iapply (issueP_spec I c k _)
  isplitl [Hpk]; · iexact Hpk
  isplitl [Hv]; · iexact Hv
  isplitl [HE]; · iexact HE
  isplitl [HG]; · iexact HG
  iintro ⟨Hpk, HFl⟩
  isplitl []; · iexact HR
  isplitl []; · iexact Hlev
  isplitl [Hpk]; · iexact Hpk
  isplitl [Hids]; · iexact Hids
  isplitl [HO]; · iexact HO
  isplitl [HF]; · iexact HF
  iapply Hput
  isplitl [HFl]; · iexact HFl
  iexact Hrest

theorem drainS (R : sProp 𝕄) (c : Dev nD) (s : Fin 8 → ℕ) (ny nx : ℕ) (k : Fin 8) (h : s k = 1) :
    Cs I K R c s ny nx ⊢ runs c (drainP k) (fun _ => Cs I K R c (Function.update s k 2) ny nx) := by
  unfold Cs runs
  iintro ⟨#HR, #Hlev, Hpk, Hids, HO, HF, HS⟩
  ihave HT := (chunk_step I c s k 1 2 h (st1 I c k) (st2 I c k)) $$ HS
  icases HT with ⟨H, Hput⟩
  unfold S1 S2 gDone
  icases H with ⟨HFl, Hrest⟩
  iapply (drainP_spec I c k ny nx _)
  isplitl []; · iexact Hlev
  isplitl [HFl]; · iexact HFl
  isplitl [HO]; · iexact HO
  iintro ⟨Hv, HE, HG, HO⟩
  isplitl []; · iexact HR
  isplitl []; · iexact Hlev
  isplitl [Hpk]; · iexact Hpk
  isplitl [Hids]; · iexact Hids
  isplitl [HO]; · iexact HO
  isplitl [HF]; · iexact HF
  iapply Hput
  isplitl [Hv HE HG]
  · isplitl [Hv]; · iexact Hv
    isplitl [HE] <;> iassumption
  iexact Hrest

theorem sendS (R : sProp 𝕄) (c : Dev nD) (s : Fin 8 → ℕ) (ny nx : ℕ) (k : Fin 8) (h : s k = 2) (hn : ny = k.val) :
    Cs I K R c s ny nx ⊢ runs c (sendP c k) (fun _ => Cs I K R c (Function.update s k 3) (ny + 1) nx) := by
  subst hn
  unfold Cs runs
  iintro ⟨#HR, #Hlev, Hpk, Hids, HO, HF, HS⟩
  ihave HT := (chunk_step I c s k 2 3 h (st2 I c k) (st3 I c k)) $$ HS
  icases HT with ⟨H, Hput⟩
  unfold S2 S3 gDone yPart
  icases H with ⟨⟨Hv, HE, HG⟩, ⟨HYs, HYr, Ht1, Hr1, Ht2, Hr2⟩, Hrest⟩
  iapply (sendP_spec I K c k nx _)
  isplitl []; · iexact HR
  isplitl [Hids]; · iexact Hids
  isplitl [HG]; · iexact HG
  isplitl [HYs]; · iexact HYs
  isplitl [HYr]; · iexact HYr
  isplitl [Ht1]; · iexact Ht1
  isplitl [Hr1]; · iexact Hr1
  isplitl [Ht2]; · iexact Ht2
  isplitl [Hr2]; · iexact Hr2
  isplitl [HO]; · iexact HO
  iintro ⟨Hids, HG, HYs, HC, HO⟩
  isplitl []; · iexact HR
  isplitl []; · iexact Hlev
  isplitl [Hpk]; · iexact Hpk
  isplitl [Hids]; · iexact Hids
  isplitl [HO]; · iexact HO
  isplitl [HF]; · iexact HF
  iapply Hput
  isplitl [Hv HE HG]
  · isplitl [Hv]; · iexact Hv
    isplitl [HE] <;> iassumption
  isplitl [HYs HC]
  · isplitl [HYs] <;> iassumption
  iexact Hrest

theorem procYS (R : sProp 𝕄) (c : Dev nD) (s : Fin 8 → ℕ) (ny nx : ℕ) (k : Fin 8) (h : s k = 3) (hn : nx = k.val) (hy : k.val < ny) :
    Cs I K R c s ny nx ⊢ runs c (procYP c k) (fun _ => Cs I K R c (Function.update s k 4) ny (nx + 1)) := by
  subst hn
  unfold Cs runs
  iintro ⟨#HR, #Hlev, Hpk, Hids, HO, HF, HS⟩
  ihave HT := (chunk_step I c s k 3 4 h (st3 I c k) (st4 I c k)) $$ HS
  icases HT with ⟨H, Hput⟩
  unfold S3 S4 xPart yKept
  icases H with ⟨HG, ⟨HYs, HC⟩, ⟨HXs, HXr, Ho, HcY, HaY, Ht1, Hr1, Ht2, Hr2⟩, Hrest⟩
  iapply (procYP_spec I K c k ny hy _)
  isplitl []; · iexact HR
  isplitl []; · iexact Hlev
  isplitl [HYs]; · iexact HYs
  isplitl [HXs]; · iexact HXs
  isplitl [HXr]; · iexact HXr
  isplitl [Ho]; · iexact Ho
  isplitl [HcY]; · iexact HcY
  isplitl [HaY]; · iexact HaY
  isplitl [Ht1]; · iexact Ht1
  isplitl [Hr1]; · iexact Hr1
  isplitl [Ht2]; · iexact Ht2
  isplitl [Hr2]; · iexact Hr2
  isplitl [HO]; · iexact HO
  iintro ⟨HYs, HYr, Ho, Hv, HC2, HO⟩
  isplitl []; · iexact HR
  isplitl []; · iexact Hlev
  isplitl [Hpk]; · iexact Hpk
  isplitl [Hids]; · iexact Hids
  isplitl [HO]; · iexact HO
  isplitl [HF]; · iexact HF
  iapply Hput
  isplitl [HG]; · iexact HG
  isplitl [HYs HYr Ho Hv]
  · isplitl [HYs]; · iexact HYs
    isplitl [HYr]; · iexact HYr
    isplitl [Ho] <;> iassumption
  isplitl [HC HC2]
  · isplitl [HC] <;> iassumption
  iexact Hrest

theorem procXS (R : sProp 𝕄) (c : Dev nD) (s : Fin 8 → ℕ) (ny nx : ℕ) (k : Fin 8) (h : s k = 4) (hny : k.val < ny) (hnx : k.val < nx) :
    Cs I K R c s ny nx ⊢ runs c (procXP c k) (fun _ => Cs I K R c (Function.update s k 5) ny nx) := by
  unfold Cs runs
  iintro ⟨#HR, #Hlev, Hpk, Hids, HO, HF, HS⟩
  ihave HT := (chunk_step I c s k 4 5 h (st4 I c k) (st5 I c k)) $$ HS
  icases HT with ⟨H, Hput⟩
  unfold S4 S5 zPart zDone
  icases H with ⟨HG, HY, HC, ⟨Ho, HcX, HaX⟩, Hrest⟩
  iapply (procXP_spec I K c k ny nx (by omega) (by omega) _)
  isplitl []; · iexact HR
  isplitl []; · iexact Hlev
  isplitl [Ho]; · iexact Ho
  isplitl [HcX]; · iexact HcX
  isplitl [HaX]; · iexact HaX
  isplitl [HO]; · iexact HO
  iintro ⟨HXr, Ho, Hv, HO⟩
  isplitl []; · iexact HR
  isplitl []; · iexact Hlev
  isplitl [Hpk]; · iexact Hpk
  isplitl [Hids]; · iexact Hids
  isplitl [HO]; · iexact HO
  isplitl [HF]; · iexact HF
  iapply Hput
  isplitl [HG]; · iexact HG
  isplitl [HY]; · iexact HY
  isplitl [HC]; · iexact HC
  isplitl [HXr Ho Hv]
  · isplitl [HXr]; · iexact HXr
    isplitl [Ho] <;> iassumption
  iexact Hrest

theorem sentS (R : sProp 𝕄) (c : Dev nD) (s : Fin 8 → ℕ) (ny nx : ℕ) (k : Fin 8) (h : s k = 5) (hny : ny = 8) (hnx : nx = 8) :
    Cs I K R c s ny nx ⊢ runs c (sentP k) (fun _ => Cs I K R c (Function.update s k 6) ny nx) := by
  subst hny; subst hnx
  unfold Cs runs
  iintro ⟨#HR, #Hlev, Hpk, Hids, HO, HF, HS⟩
  ihave HT := (chunk_step I c s k 5 6 h (st5 I c k) (st6 I c k)) $$ HS
  icases HT with ⟨H, Hput⟩
  unfold S5 S6 posS
  icases H with ⟨HG, HY, ⟨HC1, HC2⟩, HZ, ⟨Ha1, Ha2⟩⟩
  iapply (sentP_spec I K c k _)
  isplitl []; · iexact HR
  isplitl []; · iexact Hlev
  isplitl [HC1]; · iexact HC1
  isplitl [Ha1]; · iexact Ha1
  isplitl [HC2]; · iexact HC2
  isplitl [Ha2]; · iexact Ha2
  isplitl [HO]; · iexact HO
  iintro ⟨HYs, HXs, Hv1, Hv2, HO⟩
  isplitl []; · iexact HR
  isplitl []; · iexact Hlev
  isplitl [Hpk]; · iexact Hpk
  isplitl [Hids]; · iexact Hids
  isplitl [HO]; · iexact HO
  isplitl [HF]; · iexact HF
  iapply Hput
  isplitl [HG]; · iexact HG
  isplitl [HY]; · iexact HY
  isplitl [HYs HXs]
  · isplitl [HYs] <;> iassumption
  isplitl [HZ]; · iexact HZ
  isplitl [Hv1] <;> iassumption

end Cert.Proof.Lookup

end
-- ==== Proof.BodyRun.lean ====
/- The whole body of a core: meeting the neighbours, the phases in sequence, and what the core holds at the end. -/
module

public import proofs.«01_k».proof.Proof.Body

@[expose] public section

noncomputable section

namespace Cert.Proof.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

variable (I : Ins F) (K : GSem nD τ sig → ℕ)

/-! ## Meeting the neighbours -/

/-- A device's barrier tokens: the signals it pays to its neighbours, the credit for its own wait, its position. -/
def barTok (c : Dev nD) : sProp 𝕄 :=
  iprop(dutyTok ER (barC (devY c)) 0 false ∗ reached ER (barC (devY c)) 0 ∗ dutyTok ER (barC (devX c)) 0 true ∗ reached ER (barC (devX c)) 0
    ∗ cred (tallyAt (barC c) () 2) ∗ atPos ER (barC c) 0 ∅ 0)
/-- Chunk `k`'s tokens: the duties that the device pays, what it is owed, its positions. -/
def tokK (c : Dev nD) (k : Fin 8) : sProp 𝕄 :=
  iprop((dutyTok ER (ysC k c) 0 false ∗ reached ER (ysC k c) 0 ∗ dutyTok ER (yrC k (devY c)) 0 false)
    ∗ (cred (tallyAt (yrC k c) () NC) ∗ atPos ER (yrC k c) 0 ∅ 0)
    ∗ (dutyTok ER (xsC k c) 0 false ∗ reached ER (xsC k c) 0 ∗ dutyTok ER (xrC k (devX c)) 0 false)
    ∗ (cred (tallyAt (xrC k c) () NC) ∗ atPos ER (xrC k c) 0 ∅ 0) ∗ posS c k)
/-- Chunk `k`'s part of the device's own memory. -/
def memK (c : Dev nD) (k : Fin 8) : sProp 𝕄 :=
  iprop(eTok I c k ∗ chAny mG c k ∗ chAny mYs c k ∗ chAny mXs c k ∗ (∃ f, oP c (rA c k) f) ∗ (∃ f, oP c (rB c k) f))

/-- A chunk at its first stage, from the device's tokens and memory and the two neighbours' receive buffers. -/
theorem start_chunk (c : Dev nD) (k : Fin 8) :
    iprop((semVal (gC k c) 0 ∗ tokK c k ∗ memK I c k) ∗ (chAny mYr (devY c) k ∗ reached ER (yrC k (devY c)) 0) ∗ (chAny mXr (devX c) k ∗ reached ER (xrC k (devX c)) 0))
      ⊢ (S0 I c k : sProp 𝕄) := by
  unfold tokK memK S0 gReady yPart xPart zPart
  iintro ⟨⟨Hv, ⟨⟨Hys, Hrys, Hyr⟩, ⟨HcY, HaY⟩, ⟨Hxs, Hrxs, Hxr⟩, ⟨HcX, HaX⟩, Hpos⟩, HE, HG, HYs, HXs, HA, HB⟩, ⟨HYr, HrY⟩, HXr, HrX⟩
  isplitl [Hv HE HG]
  · isplitl [Hv]; · iexact Hv
    isplitl [HE] <;> iassumption
  isplitl [HYs HYr Hys Hrys Hyr HrY]
  · isplitl [HYs]; · iexact HYs
    isplitl [HYr]; · iexact HYr
    isplitl [Hys]; · iexact Hys
    isplitl [Hrys]; · iexact Hrys
    isplitl [Hyr] <;> iassumption
  isplitl [HXs HXr HA HcY HaY Hxs Hrxs Hxr HrX]
  · isplitl [HXs]; · iexact HXs
    isplitl [HXr]; · iexact HXr
    isplitl [HA]; · iexact HA
    isplitl [HcY]; · iexact HcY
    isplitl [HaY]; · iexact HaY
    isplitl [Hxs]; · iexact Hxs
    isplitl [Hrxs]; · iexact Hrxs
    isplitl [Hxr] <;> iassumption
  isplitl [HB HcX HaX]
  · isplitl [HB]; · iexact HB
    isplitl [HcX] <;> iassumption
  iexact Hpos

/-- The receive buffers of a device, with their cells opened: what it hands to its neighbours. -/
def recvY (c : Dev nD) : sProp 𝕄 := bigSep Finset.univ fun k : Fin 8 => iprop(chAny mYr c k ∗ reached ER (yrC k c) 0)
def recvX (c : Dev nD) : sProp 𝕄 := bigSep Finset.univ fun k : Fin 8 => iprop(chAny mXr c k ∗ reached ER (xrC k c) 0)
theorem recvY_eq (c : Dev nD) : (recvY c : sProp 𝕄) = barPayY (devY c) := by unfold recvY barPayY; rw [devY_devY]
theorem recvX_eq (c : Dev nD) : (recvX c : sProp 𝕄) = barPayX (devX c) := by unfold recvX barPayX; rw [devX_devX]

/-- What a device holds as its body starts, beside the frame `R`. -/
def bodyPre (R : sProp 𝕄) (c : Dev nD) : sProp 𝕄 :=
  iprop(recs I K ∗ levAts L lv ∗ (mPk.view.loc (c : Thread nD τ) ↦{fullShare} I.pk c) ∗ (mIds.view.loc (c : Thread nD τ) ↦{fullShare} I.ids c)
    ∗ (∃ W, owes (c : Thread nD τ) (O₀ c) W) ∗ R ∗ barTok c ∗ recvY c ∗ recvX c
    ∗ bigSep Finset.univ fun k : Fin 8 => iprop(semVal (gC k c) 0 ∗ tokK c k ∗ memK I c k))

/-- Meeting the neighbours brings every chunk to its first stage. -/
theorem meetS (R : sProp 𝕄) (c : Dev nD) :
    bodyPre I K R c ⊢ runs c (meetP c) (fun _ => Cs I K iprop(semVal (barC c) 0 ∗ R) c ![0, 0, 0, 0, 0, 0, 0, 0] 0 0) := by
  have hs : iprop((bigSep Finset.univ fun k : Fin 8 => iprop(semVal (gC k c) 0 ∗ tokK c k ∗ memK I c k)) ∗ barPayY c ∗ barPayX c)
      ⊢ (bigSep Finset.univ fun k : Fin 8 => St I c k ((![0, 0, 0, 0, 0, 0, 0, 0] : Fin 8 → ℕ) k) : sProp 𝕄) := by
    unfold barPayY barPayX
    rw [← bigSep_sep', ← bigSep_sep']
    exact bigSep_mono fun k _ => (start_chunk I c k).trans (Entails.of_eq (by
      rw [show (![0, 0, 0, 0, 0, 0, 0, 0] : Fin 8 → ℕ) k = 0 by revert k; decide]; rfl))
  unfold bodyPre barTok Cs runs
  iintro ⟨#HR, #Hlev, Hpk, Hids, HO, HF, ⟨HtY, HrY, HtX, HrX, HC, Hat⟩, HY, HX, HM⟩
  ihave HY := (Entails.of_eq (recvY_eq c)) $$ HY
  ihave HX := (Entails.of_eq (recvX_eq c)) $$ HX
  iapply (meetP_spec I K c _)
  isplitl []; · iexact HR
  isplitl []; · iexact Hlev
  isplitl [HY]; · iexact HY
  isplitl [HX]; · iexact HX
  isplitl [HtY]; · iexact HtY
  isplitl [HrY]; · iexact HrY
  isplitl [HtX]; · iexact HtX
  isplitl [HrX]; · iexact HrX
  isplitl [HC]; · iexact HC
  isplitl [Hat]; · iexact Hat
  isplitl [HO]; · iexact HO
  iintro ⟨HpY, HpX, Hb, HO⟩
  isplitl []; · iexact HR
  isplitl []; · iexact Hlev
  isplitl [Hpk]; · iexact Hpk
  isplitl [Hids]; · iexact Hids
  isplitl [HO]; · iexact HO
  isplitl [Hb HF]
  · isplitl [Hb] <;> iassumption
  iapply hs
  isplitl [HM]; · iexact HM
  isplitl [HpY] <;> iassumption

/-! ## The phases in sequence -/

/-- A step's end state at the stages it comes to. -/
theorem to_eq {c : Dev nD} {A R : sProp 𝕄} {p : KProg F PUnit} {s : Fin 8 → ℕ} {ny nx : ℕ}
    (h : A ⊢ runs c p (fun _ => Cs I K R c s ny nx)) (s' : Fin 8 → ℕ) (e : s = s') : A ⊢ runs c p (fun _ => Cs I K R c s' ny nx) := e ▸ h

/-- The body after the meeting takes every chunk from its first stage to its last. -/
theorem phases (R : sProp 𝕄) (c : Dev nD) :
    Cs I K R c ![0, 0, 0, 0, 0, 0, 0, 0] 0 0 ⊢ runs c (afterMeet c) (fun _ => Cs I K R c ![6, 6, 6, 6, 6, 6, 6, 6] 8 8) := by
  unfold afterMeet
  refine seq_step c (to_eq I K (issueS I K R c ![0, 0, 0, 0, 0, 0, 0, 0] 0 0 0 rfl) ![1, 0, 0, 0, 0, 0, 0, 0] (by decide)) fun _ => ?_
  refine seq_step c (to_eq I K (issueS I K R c ![1, 0, 0, 0, 0, 0, 0, 0] 0 0 1 rfl) ![1, 1, 0, 0, 0, 0, 0, 0] (by decide)) fun _ => ?_
  refine seq_step c (to_eq I K (drainS I K R c ![1, 1, 0, 0, 0, 0, 0, 0] 0 0 0 rfl) ![2, 1, 0, 0, 0, 0, 0, 0] (by decide)) fun _ => ?_
  refine seq_step c (to_eq I K (sendS I K R c ![2, 1, 0, 0, 0, 0, 0, 0] 0 0 0 rfl rfl) ![3, 1, 0, 0, 0, 0, 0, 0] (by decide)) fun _ => ?_
  refine seq_step c (to_eq I K (issueS I K R c ![3, 1, 0, 0, 0, 0, 0, 0] 1 0 2 rfl) ![3, 1, 1, 0, 0, 0, 0, 0] (by decide)) fun _ => ?_
  refine seq_step c (to_eq I K (drainS I K R c ![3, 1, 1, 0, 0, 0, 0, 0] 1 0 1 rfl) ![3, 2, 1, 0, 0, 0, 0, 0] (by decide)) fun _ => ?_
  refine seq_step c (to_eq I K (sendS I K R c ![3, 2, 1, 0, 0, 0, 0, 0] 1 0 1 rfl rfl) ![3, 3, 1, 0, 0, 0, 0, 0] (by decide)) fun _ => ?_
  refine seq_step c (to_eq I K (procYS I K R c ![3, 3, 1, 0, 0, 0, 0, 0] 2 0 0 rfl rfl (by decide)) ![4, 3, 1, 0, 0, 0, 0, 0] (by decide)) fun _ => ?_
  refine seq_step c (to_eq I K (issueS I K R c ![4, 3, 1, 0, 0, 0, 0, 0] 2 1 3 rfl) ![4, 3, 1, 1, 0, 0, 0, 0] (by decide)) fun _ => ?_
  refine seq_step c (to_eq I K (drainS I K R c ![4, 3, 1, 1, 0, 0, 0, 0] 2 1 2 rfl) ![4, 3, 2, 1, 0, 0, 0, 0] (by decide)) fun _ => ?_
  refine seq_step c (to_eq I K (sendS I K R c ![4, 3, 2, 1, 0, 0, 0, 0] 2 1 2 rfl rfl) ![4, 3, 3, 1, 0, 0, 0, 0] (by decide)) fun _ => ?_
  refine seq_step c (to_eq I K (procYS I K R c ![4, 3, 3, 1, 0, 0, 0, 0] 3 1 1 rfl rfl (by decide)) ![4, 4, 3, 1, 0, 0, 0, 0] (by decide)) fun _ => ?_
  refine seq_step c (to_eq I K (procXS I K R c ![4, 4, 3, 1, 0, 0, 0, 0] 3 2 0 rfl (by decide) (by decide)) ![5, 4, 3, 1, 0, 0, 0, 0] (by decide)) fun _ => ?_
  refine seq_step c (to_eq I K (issueS I K R c ![5, 4, 3, 1, 0, 0, 0, 0] 3 2 4 rfl) ![5, 4, 3, 1, 1, 0, 0, 0] (by decide)) fun _ => ?_
  refine seq_step c (to_eq I K (drainS I K R c ![5, 4, 3, 1, 1, 0, 0, 0] 3 2 3 rfl) ![5, 4, 3, 2, 1, 0, 0, 0] (by decide)) fun _ => ?_
  refine seq_step c (to_eq I K (sendS I K R c ![5, 4, 3, 2, 1, 0, 0, 0] 3 2 3 rfl rfl) ![5, 4, 3, 3, 1, 0, 0, 0] (by decide)) fun _ => ?_
  refine seq_step c (to_eq I K (procYS I K R c ![5, 4, 3, 3, 1, 0, 0, 0] 4 2 2 rfl rfl (by decide)) ![5, 4, 4, 3, 1, 0, 0, 0] (by decide)) fun _ => ?_
  refine seq_step c (to_eq I K (procXS I K R c ![5, 4, 4, 3, 1, 0, 0, 0] 4 3 1 rfl (by decide) (by decide)) ![5, 5, 4, 3, 1, 0, 0, 0] (by decide)) fun _ => ?_
  refine seq_step c (to_eq I K (issueS I K R c ![5, 5, 4, 3, 1, 0, 0, 0] 4 3 5 rfl) ![5, 5, 4, 3, 1, 1, 0, 0] (by decide)) fun _ => ?_
  refine seq_step c (to_eq I K (drainS I K R c ![5, 5, 4, 3, 1, 1, 0, 0] 4 3 4 rfl) ![5, 5, 4, 3, 2, 1, 0, 0] (by decide)) fun _ => ?_
  refine seq_step c (to_eq I K (sendS I K R c ![5, 5, 4, 3, 2, 1, 0, 0] 4 3 4 rfl rfl) ![5, 5, 4, 3, 3, 1, 0, 0] (by decide)) fun _ => ?_
  refine seq_step c (to_eq I K (procYS I K R c ![5, 5, 4, 3, 3, 1, 0, 0] 5 3 3 rfl rfl (by decide)) ![5, 5, 4, 4, 3, 1, 0, 0] (by decide)) fun _ => ?_
  refine seq_step c (to_eq I K (procXS I K R c ![5, 5, 4, 4, 3, 1, 0, 0] 5 4 2 rfl (by decide) (by decide)) ![5, 5, 5, 4, 3, 1, 0, 0] (by decide)) fun _ => ?_
  refine seq_step c (to_eq I K (issueS I K R c ![5, 5, 5, 4, 3, 1, 0, 0] 5 4 6 rfl) ![5, 5, 5, 4, 3, 1, 1, 0] (by decide)) fun _ => ?_
  refine seq_step c (to_eq I K (drainS I K R c ![5, 5, 5, 4, 3, 1, 1, 0] 5 4 5 rfl) ![5, 5, 5, 4, 3, 2, 1, 0] (by decide)) fun _ => ?_
  refine seq_step c (to_eq I K (sendS I K R c ![5, 5, 5, 4, 3, 2, 1, 0] 5 4 5 rfl rfl) ![5, 5, 5, 4, 3, 3, 1, 0] (by decide)) fun _ => ?_
  refine seq_step c (to_eq I K (procYS I K R c ![5, 5, 5, 4, 3, 3, 1, 0] 6 4 4 rfl rfl (by decide)) ![5, 5, 5, 4, 4, 3, 1, 0] (by decide)) fun _ => ?_
  refine seq_step c (to_eq I K (procXS I K R c ![5, 5, 5, 4, 4, 3, 1, 0] 6 5 3 rfl (by decide) (by decide)) ![5, 5, 5, 5, 4, 3, 1, 0] (by decide)) fun _ => ?_
  refine seq_step c (to_eq I K (issueS I K R c ![5, 5, 5, 5, 4, 3, 1, 0] 6 5 7 rfl) ![5, 5, 5, 5, 4, 3, 1, 1] (by decide)) fun _ => ?_
  refine seq_step c (to_eq I K (drainS I K R c ![5, 5, 5, 5, 4, 3, 1, 1] 6 5 6 rfl) ![5, 5, 5, 5, 4, 3, 2, 1] (by decide)) fun _ => ?_
  refine seq_step c (to_eq I K (sendS I K R c ![5, 5, 5, 5, 4, 3, 2, 1] 6 5 6 rfl rfl) ![5, 5, 5, 5, 4, 3, 3, 1] (by decide)) fun _ => ?_
  refine seq_step c (to_eq I K (procYS I K R c ![5, 5, 5, 5, 4, 3, 3, 1] 7 5 5 rfl rfl (by decide)) ![5, 5, 5, 5, 4, 4, 3, 1] (by decide)) fun _ => ?_
  refine seq_step c (to_eq I K (procXS I K R c ![5, 5, 5, 5, 4, 4, 3, 1] 7 6 4 rfl (by decide) (by decide)) ![5, 5, 5, 5, 5, 4, 3, 1] (by decide)) fun _ => ?_
  refine seq_step c (to_eq I K (drainS I K R c ![5, 5, 5, 5, 5, 4, 3, 1] 7 6 7 rfl) ![5, 5, 5, 5, 5, 4, 3, 2] (by decide)) fun _ => ?_
  refine seq_step c (to_eq I K (sendS I K R c ![5, 5, 5, 5, 5, 4, 3, 2] 7 6 7 rfl rfl) ![5, 5, 5, 5, 5, 4, 3, 3] (by decide)) fun _ => ?_
  refine seq_step c (to_eq I K (procYS I K R c ![5, 5, 5, 5, 5, 4, 3, 3] 8 6 6 rfl rfl (by decide)) ![5, 5, 5, 5, 5, 4, 4, 3] (by decide)) fun _ => ?_
  refine seq_step c (to_eq I K (procXS I K R c ![5, 5, 5, 5, 5, 4, 4, 3] 8 7 5 rfl (by decide) (by decide)) ![5, 5, 5, 5, 5, 5, 4, 3] (by decide)) fun _ => ?_
  refine seq_step c (to_eq I K (procYS I K R c ![5, 5, 5, 5, 5, 5, 4, 3] 8 7 7 rfl rfl (by decide)) ![5, 5, 5, 5, 5, 5, 4, 4] (by decide)) fun _ => ?_
  refine seq_step c (to_eq I K (procXS I K R c ![5, 5, 5, 5, 5, 5, 4, 4] 8 8 6 rfl (by decide) (by decide)) ![5, 5, 5, 5, 5, 5, 5, 4] (by decide)) fun _ => ?_
  refine seq_step c (to_eq I K (procXS I K R c ![5, 5, 5, 5, 5, 5, 5, 4] 8 8 7 rfl (by decide) (by decide)) ![5, 5, 5, 5, 5, 5, 5, 5] (by decide)) fun _ => ?_
  refine seq_step c (to_eq I K (sentS I K R c ![5, 5, 5, 5, 5, 5, 5, 5] 8 8 0 rfl rfl rfl) ![6, 5, 5, 5, 5, 5, 5, 5] (by decide)) fun _ => ?_
  refine seq_step c (to_eq I K (sentS I K R c ![6, 5, 5, 5, 5, 5, 5, 5] 8 8 1 rfl rfl rfl) ![6, 6, 5, 5, 5, 5, 5, 5] (by decide)) fun _ => ?_
  refine seq_step c (to_eq I K (sentS I K R c ![6, 6, 5, 5, 5, 5, 5, 5] 8 8 2 rfl rfl rfl) ![6, 6, 6, 5, 5, 5, 5, 5] (by decide)) fun _ => ?_
  refine seq_step c (to_eq I K (sentS I K R c ![6, 6, 6, 5, 5, 5, 5, 5] 8 8 3 rfl rfl rfl) ![6, 6, 6, 6, 5, 5, 5, 5] (by decide)) fun _ => ?_
  refine seq_step c (to_eq I K (sentS I K R c ![6, 6, 6, 6, 5, 5, 5, 5] 8 8 4 rfl rfl rfl) ![6, 6, 6, 6, 6, 5, 5, 5] (by decide)) fun _ => ?_
  refine seq_step c (to_eq I K (sentS I K R c ![6, 6, 6, 6, 6, 5, 5, 5] 8 8 5 rfl rfl rfl) ![6, 6, 6, 6, 6, 6, 5, 5] (by decide)) fun _ => ?_
  refine seq_step c (to_eq I K (sentS I K R c ![6, 6, 6, 6, 6, 6, 5, 5] 8 8 6 rfl rfl rfl) ![6, 6, 6, 6, 6, 6, 6, 5] (by decide)) fun _ => ?_
  exact to_eq I K (sentS I K R c ![6, 6, 6, 6, 6, 6, 6, 5] 8 8 7 rfl rfl rfl) ![6, 6, 6, 6, 6, 6, 6, 6] (by decide)

/-! ## The end -/

/-- Chunk `k`'s five counters, all at zero. -/
def zeroK (c : Dev nD) (k : Fin 8) : sProp 𝕄 :=
  iprop(semVal (gC k c) 0 ∗ semVal (ysC k c) 0 ∗ semVal (yrC k c) 0 ∗ semVal (xsC k c) 0 ∗ semVal (xrC k c) 0)

/-- A chunk at its last stage, taken apart. -/
theorem end_chunk (c : Dev nD) (k : Fin 8) :
    (S6 I c k : sProp 𝕄) ⊢ iprop(zeroK c k ∗ eTok I c k ∗ chP mG c k fullShare (gV I c) ∗ chP mYs c k fullShare (ysV I c) ∗ chP mYr c k fullShare (ysV I (devY c))
      ∗ chP mXs c k fullShare (xsV I c) ∗ chP mXr c k fullShare (xsV I (devX c)) ∗ oP c (rA c k) (outV I c) ∗ oP c (rB c k) (outV I c)) := by
  unfold S6 gDone yKept zDone zeroK
  iintro ⟨⟨Hg, HE, HG⟩, ⟨HYs, HYr, HA, Hyr⟩, ⟨HYl, HXs⟩, ⟨HXr, HB, Hxr⟩, Hys, Hxs⟩
  isplitl [Hg Hys Hyr Hxs Hxr]
  · isplitl [Hg]; · iexact Hg
    isplitl [Hys]; · iexact Hys
    isplitl [Hyr]; · iexact Hyr
    isplitl [Hxs] <;> iassumption
  isplitl [HE]; · iexact HE
  isplitl [HG]; · iexact HG
  isplitl [HYs HYl]
  · iapply (chP_halves mYs c k (ysV I c)).2
    isplitl [HYl] <;> iassumption
  isplitl [HYr]; · iexact HYr
  isplitl [HXs]; · iexact HXs
  isplitl [HXr]; · iexact HXr
  isplitl [HA] <;> iassumption

/-- What a device holds when its body has ended, beside the frame `R`. -/
def bodyPost (R : sProp 𝕄) (c : Dev nD) : sProp 𝕄 :=
  iprop((mPk.view.loc (c : Thread nD τ) ↦{fullShare} I.pk c) ∗ (mIds.view.loc (c : Thread nD τ) ↦{fullShare} I.ids c)
    ∗ (∃ W, owes (c : Thread nD τ) (0 : CellTallies nD τ sig Unit) W) ∗ semVal (barC c) 0 ∗ R
    ∗ (bigSep Finset.univ fun k : Fin 8 => zeroK c k) ∗ (bigSep Finset.univ fun k : Fin 8 => eTok I c k)
    ∗ (mG.view.loc (c : Thread nD τ) ↦{fullShare} gV I c) ∗ (mYs.view.loc (c : Thread nD τ) ↦{fullShare} ysV I c)
    ∗ (mYr.view.loc (c : Thread nD τ) ↦{fullShare} ysV I (devY c)) ∗ (mXs.view.loc (c : Thread nD τ) ↦{fullShare} xsV I c)
    ∗ (mXr.view.loc (c : Thread nD τ) ↦{fullShare} xsV I (devX c)) ∗ (mOut.view.loc (c : Thread nD τ) ↦{fullShare} outV I c))

/-- Every chunk at its last stage is the memory whole, with the output block written. -/
theorem finish (R : sProp 𝕄) (c : Dev nD) : Cs I K iprop(semVal (barC c) 0 ∗ R) c ![6, 6, 6, 6, 6, 6, 6, 6] 8 8 ⊢ (bodyPost I R c : sProp 𝕄) := by
  have hs : (bigSep Finset.univ fun k : Fin 8 => St I c k ((![6, 6, 6, 6, 6, 6, 6, 6] : Fin 8 → ℕ) k) : sProp 𝕄)
      ⊢ iprop((bigSep Finset.univ fun k : Fin 8 => zeroK c k) ∗ (bigSep Finset.univ fun k : Fin 8 => eTok I c k)
    ∗ (mG.view.loc (c : Thread nD τ) ↦{fullShare} gV I c) ∗ (mYs.view.loc (c : Thread nD τ) ↦{fullShare} ysV I c)
    ∗ (mYr.view.loc (c : Thread nD τ) ↦{fullShare} ysV I (devY c)) ∗ (mXs.view.loc (c : Thread nD τ) ↦{fullShare} xsV I c)
    ∗ (mXr.view.loc (c : Thread nD τ) ↦{fullShare} xsV I (devX c)) ∗ (mOut.view.loc (c : Thread nD τ) ↦{fullShare} outV I c)) := by
    rw [chunks_G, chunks_Ys, chunks_Yr, chunks_Xs, chunks_Xr, blocks_out, ← bigSep_sep', ← bigSep_sep', ← bigSep_sep', ← bigSep_sep', ← bigSep_sep',
      ← bigSep_sep', ← bigSep_sep', ← bigSep_sep']
    exact bigSep_mono fun k _ => (Entails.of_eq (by
      rw [show (![6, 6, 6, 6, 6, 6, 6, 6] : Fin 8 → ℕ) k = 6 by revert k; decide]; rfl)).trans (end_chunk I c k)
  unfold Cs bodyPost
  iintro ⟨-, -, Hpk, Hids, ⟨%W, HO⟩, ⟨Hb, HF⟩, HS⟩
  isplitl [Hpk]; · iexact Hpk
  isplitl [Hids]; · iexact Hids
  isplitl [HO]
  · iexists W
    ihave HO := (Entails.of_eq (congrArg (fun O => (owes (c : Thread nD τ) O W : sProp 𝕄)) (oC_end c))) $$ HO
    iexact HO
  isplitl [Hb]; · iexact Hb
  isplitl [HF]; · iexact HF
  iapply hs
  iexact HS

/-- The whole body of device `c`. -/
theorem body_run (R : sProp 𝕄) (c : Dev nD) (Kt : PUnit → sProp 𝕄) : iprop(bodyPre I K R c ∗ (bodyPost I R c -∗ Kt ⟨⟩)) ⊢ runs c bodyP Kt := by
  have h := seq_step c (meetS I K R c) (Q := fun _ => bodyPost I R c) (q := fun _ => afterMeet c)
    fun _ => (phases I K iprop(semVal (barC c) 0 ∗ R) c).trans (wp_mono _ _ _ fun _ => finish I K R c)
  have e : (bodyP : KProg F PUnit) = .op .deviceId fun d => meetP d >>= fun _ => afterMeet d := rfl
  have hw : iprop(runs c (meetP c >>= fun _ => afterMeet c) (fun _ => bodyPost I R c) ∗ (∀ a, (fun _ => bodyPost I R c) a -∗ Kt a)) ⊢ runs c bodyP Kt := by
    rw [e]; unfold runs; rw [wp_deviceId]; exact wp_wand_r _ _ _
  refine (show iprop(bodyPre I K R c ∗ (bodyPost I R c -∗ Kt ⟨⟩)) ⊢ (_ : sProp 𝕄) from ?_).trans hw
  iintro ⟨H, Hk⟩
  isplitl [H]; · iapply h $$ H
  iintro %a
  iexact Hk

end Cert.Proof.Lookup

end
-- ==== Proof.Host.lean ====
/- What the host code makes of the ids: the local indices, clipped to the half table, two to a word. -/
module

public import proofs.«01_k».proof.Proof.Common
public import proofs.«01_k».proof.Proof.Gen.KernelIdeal.Regions

@[expose] public section

noncomputable section

namespace Cert.Proof.Lookup

open Idealize.ShloMosaic Idealize.ShloMosaic.TcCoe
open Idealize.ShloMosaic.ValueIdx
open Cert.KernelIdeal Cert.KernelIdeal.Gen

variable {F : FTy → Type} [FloatOps F]

/-! ## Words -/

/-- A word clipped to the rows of the half table. -/
def clipW (x : BitVec 32) : BitVec 32 := IntOp.minsi 8191#32 (IntOp.maxsi 0#32 x)
/-- Two indices in one word. -/
def packW (e o : BitVec 32) : BitVec 32 := e ||| (o <<< (16#32))

theorem clipW_lt (x : BitVec 32) : (clipW x).toNat < 8192 := by
  have h := BitVec.toInt_eq_toNat_cond x
  have hx := x.isLt
  unfold clipW IntOp.minsi IntOp.maxsi
  by_cases h0 : x.slt 0#32 = true
  · rw [if_pos h0]; decide
  · rw [if_neg h0]
    by_cases h1 : (8191#32).slt x = true
    · rw [if_pos h1]; decide
    · rw [if_neg h1]
      rw [BitVec.slt_iff_toInt_lt] at h0 h1
      have a : (0#32).toInt = 0 := by decide
      have b : (8191#32).toInt = 8191 := by decide
      rw [a] at h0; rw [b] at h1
      split at h <;> omega

/-- A word that already lies there is kept. -/
theorem clipW_of (x : BitVec 32) (hx : x.toNat < 8192) : clipW x = x := by
  have h := BitVec.toInt_eq_toNat_cond x
  have h2 : x.toInt = x.toNat := by rw [h, if_pos (by omega)]
  have a : (0#32).toInt = 0 := by decide
  have b : (8191#32).toInt = 8191 := by decide
  unfold clipW IntOp.minsi IntOp.maxsi
  have n0 : ¬ x.slt 0#32 = true := by rw [BitVec.slt_iff_toInt_lt, a, h2]; omega
  have n1 : ¬ (8191#32).slt x = true := by rw [BitVec.slt_iff_toInt_lt, b, h2]; omega
  rw [if_neg n0, if_neg n1]

theorem pack_toNat (e o : BitVec 32) (he : e.toNat < 8192) (ho : o.toNat < 8192) : (packW e o).toNat = 65536 * o.toNat + e.toNat := by
  unfold packW
  have hs : (o <<< (16#32)).toNat = o.toNat <<< 16 := by
    rw [BitVec.shiftLeft_eq', BitVec.toNat_shiftLeft, show (16#32).toNat = 16 from rfl, Nat.shiftLeft_eq]
    exact Nat.mod_eq_of_lt (by omega)
  rw [BitVec.toNat_or, hs, Nat.or_comm, ← Nat.shiftLeft_add_eq_or_of_lt (by omega), Nat.shiftLeft_eq]
  omega

theorem off3_pack (e o : BitVec 32) (he : e.toNat < 8192) (ho : o.toNat < 8192) : k0_off3 (packW e o) 0 = e.toNat := by
  have h := pack_toNat e o he ho
  show ((packW e o) &&& 65535#32).toNat = _
  rw [BitVec.toNat_and, show (65535#32).toNat = 2 ^ 16 - 1 from rfl, Nat.and_two_pow_sub_one_eq_mod, h]
  omega

theorem off5_pack (e o : BitVec 32) (he : e.toNat < 8192) (ho : o.toNat < 8192) : k0_off5 (packW e o) 0 = o.toNat := by
  have h := pack_toNat e o he ho
  show (Scalar.shrsi (packW e o) 16#32).toNat = _
  have hs : Scalar.shrsi (packW e o) 16#32 = (packW e o).sshiftRight 16 := by
    unfold Scalar.shrsi IntOp.shrsi; rw [if_pos (by decide)]; rfl
  rw [hs, BitVec.sshiftRight_eq_of_msb_false, BitVec.toNat_ushiftRight, h, Nat.shiftRight_eq_div_pow]
  · omega
  · rw [BitVec.msb_eq_false_iff_two_mul_lt, h]; omega

/-- The row copies of a packed word lie in the half table. -/
theorem chk_pack (e o : BitVec 32) (he : e.toNat < 8192) (ho : o.toNat < 8192) : k0_chk1 (packW e o) := by
  have h3 := off3_pack e o he ho
  have h5 := off5_pack e o he ho
  constructor
  · intro a
    match a with
    | ⟨0, _⟩ => show k0_off3 (packW e o) 0 + 1 ≤ 8192; omega
    | ⟨1, _⟩ => show 0 + 1024 ≤ 1024; omega
  · intro a
    match a with
    | ⟨0, _⟩ => show k0_off5 (packW e o) 0 + 1 ≤ 8192; omega
    | ⟨1, _⟩ => show 0 + 1024 ≤ 1024; omega

/-! ## The host's results -/

variable (m : (ℓ : Loc nD τ sig) → Buf (Elt F) ℓ)

/-- The ids and the table block as launched. -/
abbrev idsAt (c : Dev nD) : S1024.Idx → BitVec 32 := m ((c : Thread nD τ).loc main_arg0)
abbrev tabAt (c : Dev nD) : S8192x1024.Idx → Elt F .f32 := m ((c : Thread nD τ).loc main_arg1)

/-- The first row of device `c`'s half of the table. -/
def baseB (c : Dev nD) : BitVec 32 := BitVec.ofNat 32 (8192 * (c.val % 2))
theorem baseB_eq (c : Dev nD) : IntOp.muli (IntOp.remui .host (IntOp.divui .host (Dev.word c) 1#32) 2#32) 8192#32 = baseB c := by
  revert c; decide

/-- The local index of id `i`. -/
def safeW (c : Dev nD) (i : S1024.Idx) : BitVec 32 := clipW (idsAt m c i - baseB c)

theorem v7_eq (c : Dev nD) : (V1 m c main_v7 : S1024.Idx → BitVec 32) = fun i => idsAt m c i - baseB c := by
  have h : (V1 m c main_v7 : S1024.Idx → BitVec 32) = fun i => idsAt m c i - IntOp.muli (IntOp.remui .host (IntOp.divui .host (Dev.word c) 1#32) 2#32) 8192#32 := by
    show StableHlo.after (hostOps0 c) (V0 m c) (Proc.devRef .tc main_v7) = _
    after_results
    rfl
  rw [h]; funext i; rw [baseB_eq]
theorem c2_eq (c : Dev nD) : (V1 m c main_c_2 : S_.Idx → BitVec 32) = fun _ => 0#32 := by
  show StableHlo.after (hostOps0 c) (V0 m c) (Proc.devRef .tc main_c_2) = _
  after_results; rfl
theorem c3_eq (c : Dev nD) : (V1 m c main_c_3 : S_.Idx → BitVec 32) = fun _ => 8191#32 := by
  show StableHlo.after (hostOps0 c) (V0 m c) (Proc.devRef .tc main_c_3) = _
  after_results; rfl
theorem v8_eq (c : Dev nD) : (V2 m c main_v8 : S1024.Idx → BitVec 32) = safeW m c := by
  have h : ∀ W : Valuation τ sig (Elt F), (StableHlo.after hostOps0_1 W (Proc.devRef .tc main_v8) : S1024.Idx → BitVec 32)
      = fun i => IntOp.minsi (broadcastInDim S1024 ![] bcast_S_S1024 (W (Proc.devRef .tc main_c_3) : S_.Idx → BitVec 32) i)
          (IntOp.maxsi (broadcastInDim S1024 ![] bcast_S_S1024 (W (Proc.devRef .tc main_c_2) : S_.Idx → BitVec 32) i) ((W (Proc.devRef .tc main_v7) : S1024.Idx → BitVec 32) i)) := by
    intro W; after_results; rfl
  refine (h (V1 m c)).trans ?_
  rw [c2_eq m c, c3_eq m c, v7_eq m c]
  rfl

/-- Index `i` of the even and of the odd places. -/
def evenI (i : S512.Idx) : S1024.Idx := fun a => ⟨2 * (i 0).val, by
  match a with | ⟨0, _⟩ => have h : (i 0).val < 512 := (i 0).isLt; show _ < 1024; omega⟩
def oddI (i : S512.Idx) : S1024.Idx := fun a => ⟨2 * (i 0).val + 1, by
  match a with | ⟨0, _⟩ => have h : (i 0).val < 512 := (i 0).isLt; show _ < 1024; omega⟩

theorem v13_eq (c : Dev nD) : (V3 m c main_v13 : S512.Idx → BitVec 32) = fun i => packW (safeW m c (evenI i)) (safeW m c (oddI i)) := by
  have h : ∀ W : Valuation τ sig (Elt F), (StableHlo.after hostOps0_2 W (Proc.devRef .tc main_v13) : S512.Idx → BitVec 32)
      = fun i => IntOp.ori (Host.slice S512 ![0] ![2] (W (Proc.devRef .tc main_v8) : S1024.Idx → BitVec 32) slicesBy_S1024_S512_0s2 i)
          (IntOp.shli .host (Host.slice S512 ![1] ![2] (W (Proc.devRef .tc main_v8) : S1024.Idx → BitVec 32) slicesBy_S1024_S512_1s2 i) 16#32) := by
    intro W; after_results; rfl
  refine (h (V2 m c)).trans ?_
  rw [v8_eq m c]
  funext i
  unfold IntOp.ori IntOp.shli packW
  rw [if_pos (by decide)]
  have e0 : Host.slice S512 ![0] ![2] (safeW m c) slicesBy_S1024_S512_0s2 i = safeW m c (evenI i) := by
    unfold Host.slice; congr 1; funext a; match a with | ⟨0, _⟩ => apply Fin.ext; show 0 + 2 * (i 0).val = 2 * (i 0).val; omega
  have e1 : Host.slice S512 ![1] ![2] (safeW m c) slicesBy_S1024_S512_1s2 i = safeW m c (oddI i) := by
    unfold Host.slice; congr 1; funext a; match a with | ⟨0, _⟩ => apply Fin.ext; show 1 + 2 * (i 0).val = 2 * (i 0).val + 1; omega
  rw [e0, e1]

theorem v14_eq (c : Dev nD) : (V3 m c main_v14 : S1024x1.Idx → BitVec 32) = fun j => shapeCast S1024x1 (idsAt m c) shapeCasts_S1024_S1024x1 j := by
  have h : ∀ W : Valuation τ sig (Elt F), (StableHlo.after hostOps0_2 W (Proc.devRef .tc main_v14) : S1024x1.Idx → BitVec 32)
      = fun j => shapeCast S1024x1 (W (Proc.devRef .tc main_arg0) : S1024.Idx → BitVec 32) shapeCasts_S1024_S1024x1 j := by
    intro W; after_results; rfl
  refine (h (V2 m c)).trans ?_
  rw [show V2 m c (Proc.devRef .tc main_arg0) = idsAt m c from (V2_of m c main_arg0 (by decide)).trans ((V1_of m c main_arg0 (by decide)).trans rfl)]

/-- What the kernel's call is given. -/
def ins : Ins F where
  pk c := V3 m c main_v13
  ids c := V3 m c main_v14
  E c := V3 m c main_arg1
  chk c i := by
    rw [show (V3 m c main_v13 : S512.Idx → BitVec 32) i = packW (safeW m c (evenI i)) (safeW m c (oddI i)) from congrFun (v13_eq m c) i]
    exact chk_pack _ _ (clipW_lt _) (clipW_lt _)

theorem ins_E (c : Dev nD) : (ins m).E c = tabAt m c :=
  (V3_of m c main_arg1 (by decide)).trans ((V2_of m c main_arg1 (by decide)).trans ((V1_of m c main_arg1 (by decide)).trans rfl))

end Cert.Proof.Lookup

end
-- ==== Proof.Region.lean ====
/- The kernel's call as one region of @main: what the call is entered with and left with, and its body. -/
module

public import proofs.«01_k».proof.Proof.BodyRun
public import proofs.«01_k».proof.Proof.Host
public import Idealize.ShloMosaic.Lib.Pipeline.ValueKit

@[expose] public section

noncomputable section

namespace Cert.Proof.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- The host's valuation when the call returns: the result written, all else as at the call. -/
abbrev Vend (c : Dev nD) : Valuation τ sig (Elt F) := Function.update (V3 m c) (Proc.devRef .tc main_v15) (outV (ins m) c)

/-- The five scratch buffers at any contents. -/
def scratch (c : Dev nD) : sProp 𝕄 :=
  iprop((∃ f, mG.view.loc (c : Thread nD τ) ↦{fullShare} f) ∗ (∃ f, mYs.view.loc (c : Thread nD τ) ↦{fullShare} f)
    ∗ (∃ f, mYr.view.loc (c : Thread nD τ) ↦{fullShare} f) ∗ (∃ f, mXs.view.loc (c : Thread nD τ) ↦{fullShare} f)
    ∗ (∃ f, mXr.view.loc (c : Thread nD τ) ↦{fullShare} f))
/-- The device's half of the table. -/
abbrev table (c : Dev nD) : sProp 𝕄 := mE.view.loc (c : Thread nD τ) ↦{fullShare} (ins m).E c
/-- The protocol's state with every cell of the device open. -/
def opened (c : Dev nD) : sProp 𝕄 :=
  iprop(∃ K, recs (ins m) K ∗ levAts L lv ∗ barTok c
    ∗ (bigSep Finset.univ fun k : Fin 8 => reached ER (yrC k c) 0) ∗ (bigSep Finset.univ fun k : Fin 8 => reached ER (xrC k c) 0)
    ∗ (bigSep Finset.univ fun k : Fin 8 => semVal (gC k c) 0) ∗ bigSep Finset.univ fun k : Fin 8 => tokK c k)

/-- The call before its body. -/
def phi0 (c : Dev nD) : sProp 𝕄 := iprop(scratch c ∗ (∃ r, prngReg c r) ∗ table m c ∗ opened m c)
/-- The call after its body. -/
def phi1 (c : Dev nD) : sProp 𝕄 :=
  iprop(scratch c ∗ (∃ r, prngReg c r) ∗ table m c ∗ (bigSep Finset.univ fun k : Fin 8 => zeroK c k) ∗ semVal (barC c) 0)

/-- The call's proof data: two arrays read, one written with the kernel's result; the core owes its dues before the body,
    nothing after it. -/
def dat0 (c : Dev nD) : Dat τ (Elt F) Unit ℕ UU ℕ cfg0 c where
  A w := match w with
    | ⟨0, _⟩ => V3 m c main_v13
    | ⟨1, _⟩ => V3 m c main_v14
    | ⟨2, _⟩ => V3 m c main_v15
  after w _ := match w with
    | ⟨0, _⟩ => (ins m).pk c
    | ⟨1, _⟩ => (ins m).ids c
    | ⟨2, _⟩ => outV (ins m) c
  Φ t := if t.val = 0 then phi0 m c else phi1 m c
  q _ := fullShare
  owed t := if t.val = 0 then O₀ c else 0

/-- The data of @main's one call. -/
def pdats : (p : Fin 1) → (c : Dev nD) → Dat τ (Elt F) Unit ℕ UU ℕ (cfgs p) c := fun _ c => dat0 m c

theorem owed_zero (c : Dev nD) : (dat0 m c).owed 0 = O₀ c := by
  show (if (0 : Fin (grid0.N + 1)).val = 0 then O₀ c else 0) = _; exact if_pos rfl
theorem owed_first (c : Dev nD) : (dat0 m c).owed t0_0.castSucc = O₀ c := by
  show (if t0_0.castSucc.val = 0 then O₀ c else 0) = _; exact if_pos rfl
theorem owed_last (c : Dev nD) : (dat0 m c).owed (Fin.last cfg0.N) = 0 := by
  show (if (Fin.last grid0.N).val = 0 then O₀ c else 0) = 0
  rw [Fin.val_last, if_neg (by rw [N_0]; decide)]
theorem owed_succ (c : Dev nD) : (dat0 m c).owed t0_0.succ = 0 := by
  show (if t0_0.succ.val = 0 then O₀ c else 0) = _; exact if_neg (Nat.succ_ne_zero _)
theorem phi_zero (c : Dev nD) : (dat0 m c).Φ 0 = phi0 m c := by
  show (if (0 : Fin (grid0.N + 1)).val = 0 then phi0 m c else phi1 m c) = _; exact if_pos rfl
theorem phi_first (c : Dev nD) : (dat0 m c).Φ t0_0.castSucc = phi0 m c := by
  show (if t0_0.castSucc.val = 0 then phi0 m c else phi1 m c) = _; exact if_pos rfl
theorem phi_succ (c : Dev nD) : (dat0 m c).Φ t0_0.succ = phi1 m c := by
  show (if t0_0.succ.val = 0 then phi0 m c else phi1 m c) = _; exact if_neg (Nat.succ_ne_zero _)
theorem phi_last (c : Dev nD) : (dat0 m c).Φ (Fin.last cfg0.N) = phi1 m c := by
  show (if (Fin.last grid0.N).val = 0 then phi0 m c else phi1 m c) = _
  rw [Fin.val_last, if_neg (by rw [N_0]; decide)]

theorem owes_in (c : Dev nD) : ((dat0 m c).owesAt () t0_0.castSucc : sProp 𝕄) ⊢ iprop(∃ W, owes (c : Thread nD τ) (O₀ c) W) := by
  unfold Dat.owesAt Pipeline.owesWithin; rw [owed_first]
  iintro ⟨%W, -, HO⟩; iexists W; iexact HO
theorem owes_out (c : Dev nD) : iprop(∃ W, owes (c : Thread nD τ) (0 : CellTallies nD τ sig Unit) W) ⊢ ((dat0 m c).owesAt () t0_0.succ : sProp 𝕄) := by
  unfold Dat.owesAt Pipeline.owesWithin Dat.bound; rw [owed_succ]
  iintro ⟨%W, HO⟩; iexists W; isplitr; · ipureintro; exact fun _ _ => Or.inl trivial
  iexact HO

/-- A window over the whole array takes the array as it is. -/
theorem emb_pk (i : S512.Idx) : ((cfg0.win 0).blk t0_0).view.emb i = i := by
  funext a; apply Fin.ext
  match a with
  | ⟨0, _⟩ => show 0 * 512 + 1 * (i 0).val = (i 0).val; omega
theorem emb_ids (i : S1024x1.Idx) : ((cfg0.win 1).blk t0_0).view.emb i = i := by
  funext a; apply Fin.ext
  match a with
  | ⟨0, _⟩ => show 0 * 1024 + 1 * (i 0).val = (i 0).val; omega
  | ⟨1, _⟩ => show 0 * 1 + 1 * (i 1).val = (i 1).val; omega

theorem before_pk (c : Dev nD) (d) : (dat0 m c).before 0 t0_0 d = (ins m).pk c := by
  unfold Pipeline.Dat.before; rw [if_pos (fetch0_0 t0_0)]
  funext i
  exact congrArg (V3 m c main_v13 : S512.Idx → BitVec 32) (emb_pk i)
theorem before_ids (c : Dev nD) (d) : (dat0 m c).before 1 t0_0 d = (ins m).ids c := by
  unfold Pipeline.Dat.before; rw [if_pos (fetch0_1 t0_0)]
  funext i
  exact congrArg (V3 m c main_v14 : S1024x1.Idx → BitVec 32) (emb_ids i)

theorem owns_mem (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem recv_intro {e : EltTy} (b : Memref sig .tc .vmem S512x1024 e) (c : Dev nD) (g : Fin 8 → GSem nD τ sig) :
    iprop((bigSep Finset.univ fun k : Fin 8 => chAny b c k) ∗ bigSep Finset.univ fun k : Fin 8 => reached ER (g k) 0)
      ⊢ (bigSep Finset.univ fun k : Fin 8 => iprop(chAny b c k ∗ reached ER (g k) 0) : sProp 𝕄) := by
  rw [bigSep_sep']

/-- The device's memory cut by chunks. -/
theorem mem_intro (c : Dev nD) (fo : S1024x1024.Idx → Elt F .f32) (f0 : S512x1024.Idx → Elt F .f32) (f1 f3 : S512x1024.Idx → Elt F .bf16) :
    iprop((mOut.view.loc (c : Thread nD τ) ↦{fullShare} fo) ∗ table m c ∗ (mG.view.loc (c : Thread nD τ) ↦{fullShare} f0)
        ∗ (mYs.view.loc (c : Thread nD τ) ↦{fullShare} f1) ∗ (mXs.view.loc (c : Thread nD τ) ↦{fullShare} f3))
      ⊢ iprop(keptE (ins m) c ∗ bigSep Finset.univ fun k : Fin 8 => memK (ins m) c k : sProp 𝕄) := by
  unfold memK table
  rw [bigSep_sep', bigSep_sep', bigSep_sep', bigSep_sep', bigSep_sep', table_toks, chunks_G, chunks_Ys, chunks_Xs, blocks_out]
  iintro ⟨⟨HA, HB⟩, ⟨HK, HE⟩, HG, HYs, HXs⟩
  isplitl [HK]; · iexact HK
  isplitl [HE]; · iexact HE
  isplitl [HG]; · iapply (chunks_any c mG fun _ => f0); iexact HG
  isplitl [HYs]; · iapply (chunks_any c mYs fun _ => f1); iexact HYs
  isplitl [HXs]; · iapply (chunks_any c mXs fun _ => f3); iexact HXs
  isplitl [HA]; · iapply (blocks_anyA c fo); iexact HA
  iapply (blocks_anyB c fo); iexact HB

/-- What the body starts from. -/
theorem pre_intro (c : Dev nD) (fo : S1024x1024.Idx → Elt F .f32) :
    iprop(phi0 m c ∗ (mPk.view.loc (c : Thread nD τ) ↦{fullShare} (ins m).pk c) ∗ (mIds.view.loc (c : Thread nD τ) ↦{fullShare} (ins m).ids c)
        ∗ (mOut.view.loc (c : Thread nD τ) ↦{fullShare} fo) ∗ ∃ W, owes (c : Thread nD τ) (O₀ c) W)
      ⊢ iprop(∃ K, bodyPre (ins m) K iprop(keptE (ins m) c ∗ ∃ r, prngReg c r) c : sProp 𝕄) := by
  unfold phi0 scratch opened bodyPre recvY recvX
  iintro ⟨⟨⟨⟨%f0, HG⟩, ⟨%f1, HYs⟩, ⟨%f2, HYr⟩, ⟨%f3, HXs⟩, %f4, HXr⟩, Hp, HT, %K, #HR, #Hlev, Hbar, HrY, HrX, Hg, Htok⟩, Hpk, Hids, Hout, HO⟩
  ihave HM := (mem_intro m c fo f0 f1 f3) $$ [Hout HT HG HYs HXs]
  · isplitl [Hout]; · iexact Hout
    isplitl [HT]; · iexact HT
    isplitl [HG]; · iexact HG
    isplitl [HYs]; · iexact HYs
    iexact HXs
  icases HM with ⟨HK, HM⟩
  iexists K
  isplitl []; · iexact HR
  isplitl []; · iexact Hlev
  isplitl [Hpk]; · iexact Hpk
  isplitl [Hids]; · iexact Hids
  isplitl [HO]; · iexact HO
  isplitl [HK Hp]
  · isplitl [HK]; · iexact HK
    iexact Hp
  isplitl [Hbar]; · iexact Hbar
  isplitl [HYr HrY]
  · iapply (recv_intro mYr c fun k => yrC k c)
    isplitl [HYr]
    · iapply (chunks_any c mYr fun _ => f2)
      iapply (Entails.of_eq (chunks_Yr c fullShare f2)); iexact HYr
    iexact HrY
  isplitl [HXr HrX]
  · iapply (recv_intro mXr c fun k => xrC k c)
    isplitl [HXr]
    · iapply (chunks_any c mXr fun _ => f4)
      iapply (Entails.of_eq (chunks_Xr c fullShare f4)); iexact HXr
    iexact HrX
  iapply (Entails.of_eq (bigSep_sep' Finset.univ (fun k : Fin 8 => (semVal (gC k c) 0 : sProp 𝕄)) fun k => iprop(tokK c k ∗ memK (ins m) c k)).symm)
  isplitl [Hg]; · iexact Hg
  iapply (Entails.of_eq (bigSep_sep' Finset.univ (fun k : Fin 8 => (tokK c k : sProp 𝕄)) fun k => memK (ins m) c k).symm)
  isplitl [Htok]; · iexact Htok
  iexact HM

/-- What the body leaves. -/
theorem post_elim (c : Dev nD) :
    bodyPost (ins m) iprop(keptE (ins m) c ∗ ∃ r, prngReg c r) c
      ⊢ iprop(phi1 m c ∗ (∃ W, owes (c : Thread nD τ) (0 : CellTallies nD τ sig Unit) W) ∗ (mPk.view.loc (c : Thread nD τ) ↦{fullShare} (ins m).pk c)
        ∗ (mIds.view.loc (c : Thread nD τ) ↦{fullShare} (ins m).ids c) ∗ (mOut.view.loc (c : Thread nD τ) ↦{fullShare} outV (ins m) c) : sProp 𝕄) := by
  unfold bodyPost phi1 scratch
  iintro ⟨Hpk, Hids, HO, Hb, ⟨HK, Hp⟩, HZ, HE, HG, HYs, HYr, HXs, HXr, Hout⟩
  isplitl [HG HYs HYr HXs HXr Hp HK HE HZ Hb]
  · isplitl [HG HYs HYr HXs HXr]
    · isplitl [HG]; · iexists _; iexact HG
      isplitl [HYs]; · iexists _; iexact HYs
      isplitl [HYr]; · iexists _; iexact HYr
      isplitl [HXs]; · iexists _; iexact HXs
      iexists _; iexact HXr
    isplitl [Hp]; · iexact Hp
    isplitl [HK HE]
    · iapply (Entails.of_eq (table_toks (ins m) c).symm)
      isplitl [HK]; · iexact HK
      iexact HE
    isplitl [HZ]; · iexact HZ
    iexact Hb
  isplitl [HO]; · iexact HO
  isplitl [Hpk]; · iexact Hpk
  isplitl [Hids]; · iexact Hids
  iexact Hout

set_option maxRecDepth 4000 in
/-- The body at the call's one point. -/
theorem body_obl (c : Dev nD) : BodyObligation (dat0 m c) (defs₀ (F := F)) 𝒱₀ () Set.univ := fun t => by
  obtain rfl := fin_N0 t
  rw [bigSep_W0, bigSep_W0]
  simp only [owns_mem]
  rw [phi_first, phi_succ]
  iintro ⟨Hphi, HO, ⟨%d0, %f0, %hf0, H0⟩, ⟨%d1, %f1, %hf1, H1⟩, ⟨%d2, %f2, %hf2, H2⟩⟩
  rw [before_pk] at hf0
  rw [before_ids] at hf1
  subst hf0
  subst hf1
  ihave HO := (owes_in m c) $$ HO
  ihave HB := (pre_intro m c f2) $$ [Hphi HO H0 H1 H2]
  · isplitl [Hphi]; · iexact Hphi
    isplitl [H0]; · iexact H0
    isplitl [H1]; · iexact H1
    isplitl [H2]; · iexact H2
    iexact HO
  icases HB with ⟨%K, HB⟩
  iapply (show iprop(bodyPre (ins m) K iprop(keptE (ins m) c ∗ ∃ r, prngReg c r) c ∗ (bodyPost (ins m) iprop(keptE (ins m) c ∗ ∃ r, prngReg c r) c -∗ _)) ⊢ _ from
    (body_run (ins m) K iprop(keptE (ins m) c ∗ ∃ r, prngReg c r) c _).trans (Entails.of_eq (by unfold runs; rw [← body_eq t0_0]; rfl)))
  isplitl [HB]; · iexact HB
  iintro HP
  ihave HP := (post_elim m c) $$ HP
  icases HP with ⟨Hphi, HO, H0, H1, H2⟩
  isplitl [Hphi]; · iexact Hphi
  isplitl [HO]; · iapply (owes_out m c); iexact HO
  isplitl [H0]
  · iexists _; isplitr; swap; (· iexact H0); ipureintro; rfl
  isplitl [H1]
  · iexists _; isplitr; swap; (· iexact H1); ipureintro; rfl
  iexists _; isplitr; swap; (· iexact H2); ipureintro; rfl

end Cert.Proof.Lookup

end
-- ==== Proof.Talk.lean ====
/- The kernel's call as a segment of @main: opening the device's cells, and the segment's record. -/
module

public import proofs.«01_k».proof.Proof.Region

@[expose] public section

noncomputable section

namespace Cert.Proof.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The call's own semaphores -/

/-- Family `a` (gather, ys, yr, xs, xr), chunk `k`. -/
def osem (ak : Fin 5 × Fin 8) : SemLoc sig := .dma ⟨3 + 8 * ak.1.val + ak.2.val, by have := ak.1.isLt; have := ak.2.isLt; show _ < 43; omega⟩

theorem osem_facts : Pipeline.OwnSemFacts spec0 osem where
  isScoped ak := by revert ak; decide
  inj := by
    rintro ⟨a, k⟩ ⟨a', k'⟩ h
    have h1 : 3 + 8 * a.val + k.val = 3 + 8 * a'.val + k'.val := congrArg (fun s : SemLoc sig => match s with | .dma s => s.val | .reg _ => 0) h
    have := k.isLt; have := k'.isLt
    exact Prod.ext (Fin.ext (by show a.val = a'.val; omega)) (Fin.ext (by show k.val = k'.val; omega))
  disj ak := by revert ak; decide

theorem osem_g (c : Dev nD) (k : Fin 8) : (((c : Thread nD τ), osem (0, k)) : GSem nD τ sig) = gC k c := congrArg (Prod.mk (c : Thread nD τ)) (by revert k; decide)
theorem osem_ys (c : Dev nD) (k : Fin 8) : (((c : Thread nD τ), osem (1, k)) : GSem nD τ sig) = ysC k c := congrArg (Prod.mk (c : Thread nD τ)) (by revert k; decide)
theorem osem_yr (c : Dev nD) (k : Fin 8) : (((c : Thread nD τ), osem (2, k)) : GSem nD τ sig) = yrC k c := congrArg (Prod.mk (c : Thread nD τ)) (by revert k; decide)
theorem osem_xs (c : Dev nD) (k : Fin 8) : (((c : Thread nD τ), osem (3, k)) : GSem nD τ sig) = xsC k c := congrArg (Prod.mk (c : Thread nD τ)) (by revert k; decide)
theorem osem_xr (c : Dev nD) (k : Fin 8) : (((c : Thread nD τ), osem (4, k)) : GSem nD τ sig) = xrC k c := congrArg (Prod.mk (c : Thread nD τ)) (by revert k; decide)

theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- All of them at zero, chunk by chunk. -/
theorem ownSems_eq (c : Dev nD) : (Pipeline.ownSems0 osem c : sProp 𝕄) = bigSep Finset.univ fun k : Fin 8 => zeroK c k := by
  unfold Pipeline.ownSems0 zeroK
  rw [bigSep_univ_prod, bigSep_five, bigSep_sep', bigSep_sep', bigSep_sep', bigSep_sep']
  simp only [osem_g, osem_ys, osem_yr, osem_xs, osem_xr]

/-! ## Opening the cells -/

/-- The rights to open chunk `k`'s four cells. -/
def openK (c : Dev nD) (k : Fin 8) : sProp 𝕄 :=
  iprop(openTok ER (ysC k c) ∗ openTok ER (yrC k c) ∗ openTok ER (xsC k c) ∗ openTok ER (xrC k c))
/-- The tokens of the duties that the device pays on chunk `k`. -/
def dutyK (c : Dev nD) (k : Fin 8) : sProp 𝕄 :=
  iprop(dutyTok ER (ysC k c) 0 false ∗ dutyTok ER (yrC k (devY c)) 0 false ∗ dutyTok ER (xsC k c) 0 false ∗ dutyTok ER (xrC k (devX c)) 0 false)
/-- What the device is owed on chunk `k`. -/
def credK (c : Dev nD) (k : Fin 8) : sProp 𝕄 := iprop(cred (tallyAt (yrC k c) () NC) ∗ cred (tallyAt (xrC k c) () NC))

/-- The protocol's state as launched: the device's cells not yet open. -/
def closed (c : Dev nD) : sProp 𝕄 :=
  iprop(∃ K, recs (ins m) K ∗ barTok c ∗ (bigSep Finset.univ fun k : Fin 8 => openK c k) ∗ (bigSep Finset.univ fun k : Fin 8 => dutyK c k)
    ∗ bigSep Finset.univ fun k : Fin 8 => credK c k)

/-- Chunk `k`'s cells opened. -/
theorem open_chunk (K : GSem nD τ sig → ℕ) (c : Dev nD) (k : Fin 8) :
    iprop(recs (ins m) K ∗ (openK c k ∗ dutyK c k ∗ credK c k ∗ zeroK c k))
      ⊢ (|={Set.univ}=> (reached ER (yrC k c) 0 ∗ reached ER (xrC k c) 0 ∗ semVal (gC k c) 0 ∗ tokK c k) : sProp 𝕄) := by
  unfold openK dutyK credK zeroK tokK posS
  iintro ⟨#HR, ⟨Hoys, Hoyr, Hoxs, Hoxr⟩, ⟨Hys, Hyr, Hxs, Hxr⟩, ⟨HcY, HcX⟩, Hg, Hvys, Hvyr, Hvxs, Hvxr⟩
  icases (recs_chunk (ins m) K c k) $$ HR with ⟨#Hiys, #Hiyr, #Hixs, #Hixr⟩
  imod (Rounds.cell_open ER (talkRd (ins m)) (g := ysC k c) (Set.mem_univ (K (ysC k c)))) $$ [Hoys Hvys] with ⟨Hays, #Hrys⟩
  · isplitr; · iexact Hiys
    isplitl [Hoys] <;> iassumption
  imod (Rounds.cell_open ER (talkRd (ins m)) (g := yrC k c) (Set.mem_univ (K (yrC k c)))) $$ [Hoyr Hvyr] with ⟨Hayr, #Hryr⟩
  · isplitr; · iexact Hiyr
    isplitl [Hoyr] <;> iassumption
  imod (Rounds.cell_open ER (talkRd (ins m)) (g := xsC k c) (Set.mem_univ (K (xsC k c)))) $$ [Hoxs Hvxs] with ⟨Haxs, #Hrxs⟩
  · isplitr; · iexact Hixs
    isplitl [Hoxs] <;> iassumption
  imod (Rounds.cell_open ER (talkRd (ins m)) (g := xrC k c) (Set.mem_univ (K (xrC k c)))) $$ [Hoxr Hvxr] with ⟨Haxr, #Hrxr⟩
  · isplitr; · iexact Hixr
    isplitl [Hoxr] <;> iassumption
  imodintro
  isplitr; · iexact Hryr
  isplitr; · iexact Hrxr
  isplitl [Hg]; · iexact Hg
  isplitl [Hys Hyr]
  · isplitl [Hys]; · iexact Hys
    isplitr; · iexact Hrys
    iexact Hyr
  isplitl [HcY Hayr]
  · isplitl [HcY] <;> iassumption
  isplitl [Hxs Hxr]
  · isplitl [Hxs]; · iexact Hxs
    isplitr; · iexact Hrxs
    iexact Hxr
  isplitl [HcX Haxr]
  · isplitl [HcX] <;> iassumption
  isplitl [Hays] <;> iassumption

theorem open_chunks (K : GSem nD τ sig → ℕ) (c : Dev nD) :
    iprop(recs (ins m) K ∗ (bigSep Finset.univ fun k : Fin 8 => openK c k) ∗ (bigSep Finset.univ fun k : Fin 8 => dutyK c k)
        ∗ (bigSep Finset.univ fun k : Fin 8 => credK c k) ∗ (bigSep Finset.univ fun k : Fin 8 => zeroK c k))
      ⊢ (|={Set.univ}=> ((bigSep Finset.univ fun k : Fin 8 => reached ER (yrC k c) 0) ∗ (bigSep Finset.univ fun k : Fin 8 => reached ER (xrC k c) 0)
          ∗ (bigSep Finset.univ fun k : Fin 8 => semVal (gC k c) 0) ∗ bigSep Finset.univ fun k : Fin 8 => tokK c k) : sProp 𝕄) := by
  rw [← bigSep_sep', ← bigSep_sep', ← bigSep_sep', ← bigSep_sep', ← bigSep_sep', ← bigSep_sep']
  exact (bigSep_with_persistent fun k _ => open_chunk m K c k).trans (bigSep_fupd _ _)

theorem open_all (c : Dev nD) : iprop(closed m c ∗ Pipeline.ownSems0 osem c ∗ levAts L lv) ⊢ (|={Set.univ}=> opened m c : sProp 𝕄) := by
  rw [ownSems_eq]
  unfold closed opened
  iintro ⟨⟨%K, #HR, Hbar, Ho, Hd, Hc⟩, Hz, #Hlev⟩
  imod (open_chunks m K c) $$ [Ho Hd Hc Hz] with ⟨HrY, HrX, Hg, Ht⟩
  · isplitr; · iexact HR
    isplitl [Ho]; · iexact Ho
    isplitl [Hd]; · iexact Hd
    isplitl [Hc] <;> iassumption
  imodintro
  iexists K
  isplitr; · iexact HR
  isplitr; · iexact Hlev
  isplitl [Hbar]; · iexact Hbar
  isplitl [HrY]; · iexact HrY
  isplitl [HrX]; · iexact HrX
  isplitl [Hg] <;> iassumption

/-! ## The segment -/

/-- The buffer that the body addresses itself; the arrays' references; all else that the host holds. -/
abbrev own1 : Finset (DevRef τ sig) := {Proc.devRef .tc main_arg1}
abbrev arrs : Finset (DevRef τ sig) := Pipeline.arrRefs (τ := τ) spec0
abbrev rest : Finset (DevRef τ sig) := Pipeline.ucRefs τ sig \ arrs

theorem arrs_mem (b : DevRef τ sig) : b ∈ arrs ↔ b = Proc.devRef .tc main_v13 ∨ b = Proc.devRef .tc main_v14 ∨ b = Proc.devRef .tc main_v15 := by
  have h : (arrs : Finset (DevRef τ sig)) = {Proc.devRef .tc main_v13, Proc.devRef .tc main_v14, Proc.devRef .tc main_v15} := by
    unfold arrs Pipeline.arrRefs
    rw [show (Finset.univ.image (Pipeline.arrRef spec0)) = {main_v13, main_v14, main_v15} from by decide]
    rfl
  rw [h]; simp only [Finset.mem_insert, Finset.mem_singleton]
theorem own1_sub : own1 ⊆ rest := fun b hb => by
  rw [Finset.mem_singleton.mp hb]
  exact Finset.mem_sdiff.mpr ⟨Finset.mem_filter.mpr ⟨StableHlo.devRef_mem_tcRefs main_arg1, by decide⟩, fun h => by
    rcases (arrs_mem _).mp h with h | h | h <;> exact absurd h (StableHlo.devRef_ne_of_ne (by decide))⟩
theorem rest_ne (b : DevRef τ sig) (hb : b ∈ rest) : b ≠ Proc.devRef .tc main_v15 := fun h =>
  (Finset.mem_sdiff.mp hb).2 ((arrs_mem b).mpr (.inr (.inr h)))

theorem held_own1 (c : Dev nD) (W : Valuation τ sig (Elt F)) :
    (StableHlo.held (c.tc : Thread nD τ) own1 W : sProp 𝕄) = (mE.view.loc (c : Thread nD τ) ↦{fullShare} W (Proc.devRef .tc main_arg1)) := by
  unfold StableHlo.held own1; exact bigSep_singleton

theorem Vend_arg1 (c : Dev nD) : Vend m c (Proc.devRef .tc main_arg1) = (ins m).E c :=
  Function.update_of_ne (StableHlo.devRef_ne_of_ne (by decide)) _ _

theorem enter (c : Dev nD) : iprop(Pipeline.scopedRest (Pipeline.pin (pcfgs (F := F)) adm 0).spec c ∗ (∃ r, prngReg c r) ∗ StableHlo.held (c.tc : Thread nD τ) own1 (V3 m c) ∗ opened m c)
    ⊢ ((pdats m 0 c).Φ 0 : sProp 𝕄) := by
  rw [show (pdats m 0 c).Φ 0 = phi0 m c from phi_zero m c, held_own1]
  unfold phi0 scratch
  iintro ⟨Hs, Hp, HT, HO⟩
  ihave Hs := (Entails.of_eq (scopedRest0_eq (Ix := Unit) (Val := Elt F) (Name := ℕ) (U := UU) (Lvl := ℕ) c)) $$ Hs
  isplitl [Hs]; · iexact Hs
  isplitl [Hp]; · iexact Hp
  isplitl [HT]; · iexact HT
  iexact HO

theorem leave (c : Dev nD) : ((pdats m 0 c).Φ (Fin.last (Pipeline.pin (pcfgs (F := F)) adm 0).N) : sProp 𝕄)
    ⊢ iprop(Pipeline.scopedRest (Pipeline.pin (pcfgs (F := F)) adm 0).spec c ∗ (∃ r, prngReg c r) ∗ StableHlo.held (c.tc : Thread nD τ) own1 (Vend m c)
        ∗ Pipeline.ownSems0 osem c ∗ semVal (barC c) 0) := by
  rw [show (pdats m 0 c).Φ (Fin.last _) = phi1 m c from phi_last m c, held_own1, Vend_arg1, ownSems_eq]
  unfold phi1 scratch
  iintro ⟨Hs, Hp, HT, HZ, Hb⟩
  isplitl [Hs]; · iapply (Entails.of_eq (scopedRest0_eq (Ix := Unit) (Val := Elt F) (Name := ℕ) (U := UU) (Lvl := ℕ) c).symm); iexact Hs
  isplitl [Hp]; · iexact Hp
  isplitl [HT]; · iexact HT
  isplitl [HZ] <;> iassumption

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- Every cell on which a device owes at launch lies above the staging cells. -/
theorem O₀_cut {c : Dev nD} {g : GSem nD τ sig} {u : Unit} (h : 0 < O₀ c g u) : u ∈ L g ∧ 0 < lv g u := by
  have h' : 0 < oC c 0 0 g u + (tallyAt (barC (devX c)) () 1 : CellTallies nD τ sig Unit) g u + (tallyAt (barC (devY c)) () 1 : CellTallies nD τ sig Unit) g u := h
  have hbar : ∀ d : Dev nD, () ∈ L (barC d) ∧ 0 < lv (barC d) () := fun d => ⟨by rw [L_tc]; exact Finset.mem_singleton_self _, by rw [lv_bar]; decide⟩
  rcases Nat.add_pos_iff_pos_or_pos.mp h' with h | h
  · rcases Nat.add_pos_iff_pos_or_pos.mp h with h | h
    · obtain ⟨h1, h2⟩ := of_oC h
      exact ⟨by unfold L; rw [if_pos h1]; exact Finset.mem_singleton_self _, by omega⟩
    · rw [of_tallyAt h]; exact hbar _
  · rw [of_tallyAt h]; exact hbar _

theorem cut0 : Pipeline.LevelCutOwed (pcfgs (F := F)) adm (pdats m) () L lv 0 (fun _ => 0) where
  hι c w s := by rw [L_tc]; exact Finset.mem_singleton_self _
  hιb c w s := by
    have hw : ∀ (w : Fin 3) (s : Fin (win0 w).nbuf), role (.dma ((win0 w).sem s)) = .other := by decide
    show lv ((c : Thread nD τ), .dma ((win0 w).sem s)) () ≤ 0
    dsimp only [lv]; rw [hw w s]
  hD c t g i h := by
    have h' : 0 < (if t.val = 0 then O₀ c else 0 : CellTallies nD τ sig Unit) g i := h
    split at h'
    · exact O₀_cut h'
    · exact absurd h' (Nat.lt_irrefl 0)

theorem arr_first (c : Dev nD) (w : Fin 3) : (pdats m 0 c).arrAt w 0 = V3 m c (Proc.devRef .tc (Pipeline.arrRef spec0 w)) := by
  match w with
  | ⟨0, _⟩ => rfl
  | ⟨1, _⟩ => rfl
  | ⟨2, _⟩ => rfl

theorem Vend_v13 (c : Dev nD) : Vend m c (Proc.devRef .tc main_v13) = V3 m c (Proc.devRef .tc main_v13) :=
  Function.update_of_ne (StableHlo.devRef_ne_of_ne (by decide)) _ _
theorem Vend_v14 (c : Dev nD) : Vend m c (Proc.devRef .tc main_v14) = V3 m c (Proc.devRef .tc main_v14) :=
  Function.update_of_ne (StableHlo.devRef_ne_of_ne (by decide)) _ _
theorem Vend_v15 (c : Dev nD) : Vend m c (Proc.devRef .tc main_v15) = outV (ins m) c := Function.update_self _ _ _

theorem out_last (c : Dev nD) : (dat0 m c).arrAt 2 cfg0.N = outV (ins m) c :=
  Dat.arrAt_eq_of_after_last (dat0 m c) 2 t0_0 (by decide +kernel) (outV (ins m) c) (fun j => rfl)

theorem arr_last (c : Dev nD) (w : Fin 3) : (pdats m 0 c).arrAt w (cfgs 0).N = Vend m c (Proc.devRef .tc (Pipeline.arrRef spec0 w)) := by
  match w with
  | ⟨0, _⟩ => exact ((dat0 m c).arrAt_in 0 rfl _).trans (Vend_v13 m c).symm
  | ⟨1, _⟩ => exact ((dat0 m c).arrAt_in 1 rfl _).trans (Vend_v14 m c).symm
  | ⟨2, _⟩ => exact (out_last m c).trans (Vend_v15 m c).symm

set_option backward.isDefEq.respectTransparency.types false in
/-- The call's record. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem osem_facts own1 rest own1_sub kit0 rfl
    (fun c => (body_obl m c).loose) (fun _ => 0) O₀ (fun c => (owed_zero m c).trans (zero_add _).symm) (owed_last m) (fun _ => rfl) (fun _ w => ite_self _)
    (V3 m) (Vend m) (fun c b hb => Function.update_of_ne (rest_ne b (Finset.mem_sdiff.mp hb).1) _ _)
    (closed m) (fun c => semVal (barC c) 0) (opened m) (fun c => semVal (barC c) 0) (open_all m) (enter m) (leave m)
    (fun c => by iintro H; imodintro; iexact H)
    (fun _ => 0) (cut0 m) (fun _ => iprop(emp)) (arr_first m) (arr_last m)

theorem held_split (c : Dev nD) (W : Valuation τ sig (Elt F)) :
    (StableHlo.held (c.tc : Thread nD τ) (Pipeline.ucRefs τ sig) W : sProp 𝕄)
      = iprop(StableHlo.held (c.tc : Thread nD τ) arrs W ∗ StableHlo.held (c.tc : Thread nD τ) rest W) :=
  StableHlo.held_sub_split (c.tc : Thread nD τ) (Pipeline.arrRefs_sub_ucRefs spec0 (by decide)) W

/-- What rides beside the host's buffers up to the call. -/
def rides (c : Dev nD) : sProp 𝕄 := iprop(closed m c ∗ (∃ r, prngReg c r) ∗ ∃ W, owes (c : Thread nD τ) (O₀ c) W)

theorem reg0_pre (c : Dev nD) : iprop(StableHlo.held (c : Thread nD τ) (Pipeline.ucRefs τ sig) (V3 m c) ∗ rides m c) ⊢ (reg0 m).pre c := by
  show _ ⊢ iprop(StableHlo.held (c.tc : Thread nD τ) (Pipeline.arrRefs (τ := τ) (pcfgs (F := F) 0).spec) (V3 m c) ∗ (∃ r, prngReg c r)
    ∗ (StableHlo.held (c.tc : Thread nD τ) rest (V3 m c) ∗ emp) ∗ closed m c ∗ ∃ Wd, owes (c : Thread nD τ) (0 + O₀ c) Wd)
  rw [held_split, zero_add]
  unfold rides
  iintro ⟨⟨Ha, Hr⟩, HC, Hp, HO⟩
  isplitl [Ha]; · iexact Ha
  isplitl [Hp]; · iexact Hp
  isplitl [Hr]
  · isplitl [Hr]; · iexact Hr
    iempintro
  isplitl [HC] <;> iassumption

theorem reg0_post (c : Dev nD) : (reg0 m).post c
    ⊢ iprop(StableHlo.held (c : Thread nD τ) (Pipeline.ucRefs τ sig) (Vend m c) ∗ (semVal (barC c) 0 ∗ ∃ W, owes (c : Thread nD τ) (0 : CellTallies nD τ sig Unit) W)) := by
  show iprop(StableHlo.held (c.tc : Thread nD τ) (Pipeline.arrRefs (τ := τ) (pcfgs (F := F) 0).spec) (Vend m c) ∗ (∃ r, prngReg c r)
    ∗ (StableHlo.held (c.tc : Thread nD τ) rest (Vend m c) ∗ emp) ∗ semVal (barC c) 0 ∗ ∃ Wd, owes (c : Thread nD τ) (0 : CellTallies nD τ sig Unit) Wd) ⊢ _
  rw [held_split]
  iintro ⟨Ha, -, ⟨Hr, -⟩, Hb, HO⟩
  isplitl [Ha Hr]
  · isplitl [Ha] <;> iassumption
  isplitl [Hb] <;> iassumption

end Cert.Proof.Lookup

end
-- ==== Proof.Credit.lean ====
/- The credit that each device holds at launch: what its neighbours owe its cells. -/
module

public import proofs.«01_k».proof.Proof.Talk

@[expose] public section

noncomputable section

namespace Cert.Proof.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat BodyObligation)
open Cert.KernelIdeal Cert.KernelIdeal.Gen

variable {F : FTy → Type} [FloatOps F]

local notation "𝕄" => MT nD τ sig Unit (Elt F) ℕ UU ℕ

theorem devY_inj {c d : Dev nD} (h : c = devY d) : d = devY c := by rw [h, devY_devY]
theorem devX_inj {c d : Dev nD} (h : c = devX d) : d = devX c := by rw [h, devX_devX]

theorem tally_at {g g' : GSem nD τ sig} {n : ℕ} (h : g' = g) : (tallyAt g () n : CellTallies nD τ sig Unit) g' () = n := by
  rw [tallyAt_apply, if_pos ⟨h, rfl⟩]
theorem tally_off {g g' : GSem nD τ sig} {n : ℕ} (h : g' ≠ g) : (tallyAt g () n : CellTallies nD τ sig Unit) g' () = 0 := by
  rw [tallyAt_apply, if_neg fun hh => h hh.1]

/-- Cells of different devices or different roles differ. -/
theorem ne_dev {c d : Dev nD} {s s' : SemLoc sig} (h : c ≠ d) : (((c : Thread nD τ), s) : GSem nD τ sig) ≠ ((d : Thread nD τ), s') :=
  fun hh => h (congrArg (fun g : GSem nD τ sig => g.1.1) hh)
theorem ne_role {c d : Dev nD} {s s' : SemLoc sig} (h : role s ≠ role s') : (((c : Thread nD τ), s) : GSem nD τ sig) ≠ ((d : Thread nD τ), s') :=
  fun hh => h (congrArg (fun g : GSem nD τ sig => role g.2) hh)

theorem O₀_apply (d : Dev nD) (g : GSem nD τ sig) : O₀ d g () = (∑ j : Fin 8, (tallyAt (yrC j (devY d)) () NC : CellTallies nD τ sig Unit) g ())
    + (∑ j : Fin 8, (tallyAt (xrC j (devX d)) () NC : CellTallies nD τ sig Unit) g ())
    + (tallyAt (barC (devX d)) () 1 : CellTallies nD τ sig Unit) g () + (tallyAt (barC (devY d)) () 1 : CellTallies nD τ sig Unit) g () := by
  have hf : (Finset.univ.filter fun k : Fin 8 => 0 ≤ k.val) = Finset.univ := by decide
  unfold O₀ oC oY oX
  rw [hf]
  simp only [Pi.add_apply, Finsupp.add_apply, Finset.sum_apply, Finsupp.finsetSum_apply]

theorem owed_bar (d c : Dev nD) : O₀ d (barC c) () = (if d = devX c then 1 else 0) + (if d = devY c then 1 else 0) := by
  rw [O₀_apply, Finset.sum_eq_zero fun j _ => tally_off (ne_role (by rw [role_bar, role_yr]; exact fun h => by cases h)),
    Finset.sum_eq_zero fun j _ => tally_off (ne_role (by rw [role_bar, role_xr]; exact fun h => by cases h))]
  congr 1
  · rw [Nat.zero_add]
    by_cases h : d = devX c
    · rw [if_pos h, tally_at (by rw [h, devX_devX])]
    · rw [if_neg h, tally_off (ne_dev fun hh => h (devX_inj hh))]
  · by_cases h : d = devY c
    · rw [if_pos h, tally_at (by rw [h, devY_devY])]
    · rw [if_neg h, tally_off (ne_dev fun hh => h (devY_inj hh))]

theorem owed_yr (k : Fin 8) (d c : Dev nD) : O₀ d (yrC k c) () = if d = devY c then NC else 0 := by
  rw [O₀_apply, Finset.sum_eq_zero (f := fun j : Fin 8 => (tallyAt (xrC j (devX d)) () NC : CellTallies nD τ sig Unit) (yrC k c) ())
      fun j _ => tally_off (ne_role (by rw [role_yr, role_xr]; exact fun h => by cases h)),
    tally_off (ne_role (by rw [role_bar, role_yr]; exact fun h => by cases h)), tally_off (ne_role (by rw [role_bar, role_yr]; exact fun h => by cases h)),
    Finset.sum_eq_single k (fun j _ hj => tally_off (ne_role (by rw [role_yr, role_yr]; exact fun h => hj (by injection h with h; exact h.symm))))
      (fun h => absurd (Finset.mem_univ _) h)]
  by_cases h : d = devY c
  · rw [if_pos h, tally_at (by rw [h, devY_devY])]; rfl
  · rw [if_neg h, tally_off (ne_dev fun hh => h (devY_inj hh))]; rfl

theorem owed_xr (k : Fin 8) (d c : Dev nD) : O₀ d (xrC k c) () = if d = devX c then NC else 0 := by
  rw [O₀_apply, Finset.sum_eq_zero (f := fun j : Fin 8 => (tallyAt (yrC j (devY d)) () NC : CellTallies nD τ sig Unit) (xrC k c) ())
      fun j _ => tally_off (ne_role (by rw [role_yr, role_xr]; exact fun h => by cases h)),
    tally_off (ne_role (by rw [role_bar, role_xr]; exact fun h => by cases h)), tally_off (ne_role (by rw [role_bar, role_xr]; exact fun h => by cases h)),
    Finset.sum_eq_single k (fun j _ hj => tally_off (ne_role (by rw [role_xr, role_xr]; exact fun h => hj (by injection h with h; exact h.symm))))
      (fun h => absurd (Finset.mem_univ _) h)]
  by_cases h : d = devX c
  · rw [if_pos h, tally_at (by rw [h, devX_devX]), Nat.zero_add]; rfl
  · rw [if_neg h, tally_off (ne_dev fun hh => h (devX_inj hh))]

theorem launch_bar (c : Dev nD) : tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (devX c) fun _ => 1, Finset.sum_ite_eq' Finset.univ (devY c) fun _ => 1, if_pos (Finset.mem_univ _), if_pos (Finset.mem_univ _)]
theorem launch_yr (k : Fin 8) (c : Dev nD) : tallyOn (yrC k c) (launchCredit (Pipeline.owing O₀) 0 (yrC k c)) = (tallyAt (yrC k c) () NC : CellTallies nD τ sig Unit) := by
  unfold tallyAt; refine congrArg _ (Finsupp.ext fun u => ?_); cases u
  rw [Pipeline.launchCredit_owing, Finsupp.single_eq_same, Finset.sum_congr rfl fun d _ => owed_yr k d c, Finset.sum_ite_eq' Finset.univ (devY c) fun _ => NC,
    if_pos (Finset.mem_univ _)]
theorem launch_xr (k : Fin 8) (c : Dev nD) : tallyOn (xrC k c) (launchCredit (Pipeline.owing O₀) 0 (xrC k c)) = (tallyAt (xrC k c) () NC : CellTallies nD τ sig Unit) := by
  unfold tallyAt; refine congrArg _ (Finsupp.ext fun u => ?_); cases u
  rw [Pipeline.launchCredit_owing, Finsupp.single_eq_same, Finset.sum_congr rfl fun d _ => owed_xr k d c, Finset.sum_ite_eq' Finset.univ (devX c) fun _ => NC,
    if_pos (Finset.mem_univ _)]

/-- The landing semaphores, of either direction. -/
def landSem (bk : Bool × Fin 8) : SemLoc sig := if bk.1 then .dma (cell cc0_scratch7 bk.2) else .dma (cell cc0_scratch9 bk.2)
theorem landSem_inj : Function.Injective landSem := by
  rintro ⟨b, k⟩ ⟨b', k'⟩ h
  have h2 : role (landSem (b, k)) = role (landSem (b', k')) := congrArg role h
  cases b <;> cases b' <;> simp only [landSem, role_yr, role_xr, if_true, Bool.false_eq_true, if_false] at h2
  · injection h2 with h2; rw [h2]
  · cases h2
  · cases h2
  · injection h2 with h2; rw [h2]
def landEmb : Bool × Fin 8 ↪ SemLoc sig := ⟨landSem, landSem_inj⟩

theorem bigSep_bool (Φ : Bool → sProp 𝕄) : bigSep Finset.univ Φ = iprop(Φ true ∗ Φ false) :=
  bigSep_univ_eq_bigSepL [true, false] (by decide) (by decide) Φ

/-- A device's launch credit is the neighbours' two signals and their landings. -/
theorem creds (c : Dev nD) : (Pipeline.launchCred O₀ c : sProp 𝕄) ⊢ iprop(cred (tallyAt (barC c) () 2) ∗ bigSep Finset.univ fun k : Fin 8 => credK c k) := by
  unfold Pipeline.launchCred
  rw [bigSep_univ_at _ (SemLoc.reg bar.sem), launch_bar]
  refine sep_mono_right ?_
  refine (bigSep_subset (t := Finset.univ.map landEmb) fun sm h => ?_).trans ?_
  · obtain ⟨⟨b, k⟩, -, rfl⟩ := Finset.mem_map.mp h
    refine Finset.mem_erase.mpr ⟨?_, Finset.mem_univ _⟩
    cases b <;> exact fun h => by cases h
  · unfold credK
    rw [bigSep_map, bigSep_univ_prod, bigSep_bool, bigSep_sep']
    refine sep_mono (bigSep_mono fun k _ => ?_) (bigSep_mono fun k _ => ?_)
    · rw [← launch_yr k c]; exact BI.Entails.refl _
    · rw [← launch_xr k c]; exact BI.Entails.refl _

end Cert.Proof.Lookup

end
-- ==== Proof.Launch.lean ====
/- The launch: the cells funded, the tokens handed round, and the run of the whole program. -/
module

public import proofs.«01_k».proof.Proof.Credit

@[expose] public section

noncomputable section

namespace Cert.Proof.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- Family `a` of the talk (ys, yr, xs, xr), chunk `k`. -/
def tsem (ak : Fin 4 × Fin 8) : SemLoc sig := osem (ak.1.succ, ak.2)
theorem tsem_inj : Function.Injective tsem := fun ⟨a, k⟩ ⟨a', k'⟩ h => by
  have h2 := osem_facts.inj h
  have ha : a.succ = a'.succ := congrArg Prod.fst h2
  have hk : k = k' := congrArg Prod.snd h2
  rw [Fin.succ_injective _ ha, hk]

def barEmb : Dev nD ↪ GSem nD τ sig := ⟨fun c => barC c, fun _ _ h => congrArg (fun g : GSem nD τ sig => g.1.1) h⟩
def scEmb : Dev nD × (Fin 4 × Fin 8) ↪ GSem nD τ sig :=
  ⟨fun x => ((x.1 : Thread nD τ), tsem x.2), fun _ _ h => Prod.ext (congrArg (fun g : GSem nD τ sig => g.1.1) h) (tsem_inj (congrArg Prod.snd h))⟩

/-- The barrier cells, funded from their counters; the call's own cells, funded unopened. -/
abbrev barCells : Finset (GSem nD τ sig) := Finset.univ.map barEmb
abbrev scCells : Finset (GSem nD τ sig) := Finset.univ.map scEmb

def barTokEmb : Dev nD × Bool ↪ GSem nD τ sig × ℕ × Bool :=
  ⟨fun x => (barC x.1, 0, x.2), fun _ _ h => Prod.ext (congrArg (fun t : GSem nD τ sig × ℕ × Bool => t.1.1.1) h) (congrArg (fun t : GSem nD τ sig × ℕ × Bool => t.2.2) h)⟩
def scTokEmb : Dev nD × (Fin 4 × Fin 8) ↪ GSem nD τ sig × ℕ × Bool :=
  ⟨fun x => (scEmb x, 0, false), fun _ _ h => scEmb.injective (congrArg Prod.fst h)⟩
/-- Every duty's token. -/
def talkToks : Finset (GSem nD τ sig × ℕ × Bool) := Finset.univ.map barTokEmb ∪ Finset.univ.map scTokEmb

theorem bar_ne_sc (c : Dev nD) (x : Dev nD × (Fin 4 × Fin 8)) : barC c ≠ scEmb x := fun h => by
  have h2 : SemLoc.reg bar.sem = tsem x.2 := congrArg Prod.snd h
  cases h2

theorem disjoint_cells : Disjoint (barCells : Finset (GSem nD τ sig)) scCells := by
  rw [Finset.disjoint_left]
  rintro g h₁ h₂
  obtain ⟨c, -, rfl⟩ := Finset.mem_map.mp h₁
  obtain ⟨x, -, h⟩ := Finset.mem_map.mp h₂
  exact bar_ne_sc c x h.symm
theorem disjoint_toks : Disjoint (Finset.univ.map barTokEmb) (Finset.univ.map scTokEmb) := by
  rw [Finset.disjoint_left]
  rintro g h₁ h₂
  obtain ⟨c, -, rfl⟩ := Finset.mem_map.mp h₁
  obtain ⟨x, -, h⟩ := Finset.mem_map.mp h₂
  exact bar_ne_sc c.1 x (congrArg Prod.fst h).symm

/-- The launch element: the pipeline's staging cells; the talk's cells and tokens; nothing counted yet. -/
def u₀ : UU :=
  (initOf (Pipeline.cells (Pipeline.pin (pcfgs (F := F)) adm) cellOf_inj) (Pipeline.launchToks (Pipeline.pin (pcfgs (F := F)) adm) cellOf_inj),
    (launchOf barCells scCells talkToks, 1))

/-- All of `X` on device 0. -/
def parked (X : sProp 𝕄) (c : Dev nD) : sProp 𝕄 := if c = 0 then X else iprop(emp)
theorem bigSep_parked (X : sProp 𝕄) : bigSep Finset.univ (parked X) = X := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- The talk's launch element, until the cells are funded. -/
def G : Dev nD → sProp 𝕄 := parked (BI.own (ER (launchOf barCells scCells talkToks)))

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem sc_ys (c : Dev nD) (k : Fin 8) : scEmb (c, (0, k)) = ysC k c := osem_ys c k
theorem sc_yr (c : Dev nD) (k : Fin 8) : scEmb (c, (1, k)) = yrC k c := osem_yr c k
theorem sc_xs (c : Dev nD) (k : Fin 8) : scEmb (c, (2, k)) = xsC k c := osem_xs c k
theorem sc_xr (c : Dev nD) (k : Fin 8) : scEmb (c, (3, k)) = xrC k c := osem_xr c k

/-- A fact of every talk cell, device by device and chunk by chunk. -/
theorem bigSep_sc (Φ : GSem nD τ sig → sProp 𝕄) :
    bigSep scCells Φ = bigSep Finset.univ fun c : Dev nD => bigSep Finset.univ fun k : Fin 8 => iprop(Φ (ysC k c) ∗ Φ (yrC k c) ∗ Φ (xsC k c) ∗ Φ (xrC k c)) := by
  rw [bigSep_map, bigSep_univ_prod]
  refine bigSep_congr fun c _ => ?_
  rw [bigSep_univ_prod, bigSep_four, bigSep_sep', bigSep_sep', bigSep_sep']
  simp only [sc_ys, sc_yr, sc_xs, sc_xr]

/-! ## The records -/

/-- Every cell's invariant, and round 0 of every barrier cell reached. -/
def records (κ : GSem nD τ sig → ℕ) : sProp 𝕄 :=
  iprop((bigSep (barCells ∪ scCells) fun g => cellInv ER (talkRd (ins m)) (κ g) g) ∗ bigSep barCells fun g => reached ER g 0)

instance records_persistent (κ : GSem nD τ sig → ℕ) : BI.Persistent (records m κ) := by unfold records; infer_instance

theorem recs_of (κ : GSem nD τ sig → ℕ) :
    (bigSep (barCells ∪ scCells) fun g => (cellInv ER (talkRd (ins m)) (κ g) g : sProp 𝕄)) ⊢ recs (ins m) κ := by
  rw [bigSep_union disjoint_cells, bigSep_sc, bigSep_map]
  unfold recs
  rw [bigSep_sep']
  exact BI.Entails.refl _

theorem reached_at (c : Dev nD) : (bigSep barCells fun g => (reached ER g 0 : sProp 𝕄)) ⊢ reached ER (barC c) 0 :=
  bigSep_elim (Finset.mem_map_of_mem barEmb (Finset.mem_univ c))

/-- What stays with a device: its barrier position, its rights to open, the tokens of the duties that it pays. -/
def linear (c : Dev nD) : sProp 𝕄 :=
  iprop(atPos ER (barC c) 0 ∅ 0 ∗ (bigSep Finset.univ fun k : Fin 8 => openK c k)
    ∗ dutyTok ER (barC (devY c)) 0 false ∗ dutyTok ER (barC (devX c)) 0 true ∗ bigSep Finset.univ fun k : Fin 8 => dutyK c k)

/-! ## The tokens handed round -/

theorem scToks_eq : bigSep (Finset.univ.map scTokEmb) (fun x => (dutyTok ER x.1 x.2.1 x.2.2 : sProp 𝕄)) = bigSep scCells fun g => dutyTok ER g 0 false := by
  rw [bigSep_map, bigSep_map]; rfl

theorem duties_around :
    (bigSep Finset.univ fun c : Dev nD => bigSep Finset.univ fun k : Fin 8 =>
        (iprop(dutyTok ER (ysC k c) 0 false ∗ dutyTok ER (yrC k c) 0 false ∗ dutyTok ER (xsC k c) 0 false ∗ dutyTok ER (xrC k c) 0 false) : sProp 𝕄))
      = bigSep Finset.univ fun c : Dev nD => bigSep Finset.univ fun k : Fin 8 => dutyK c k := by
  unfold dutyK
  simp only [bigSep_sep']
  rw [bigSep_univ_equiv swapY (fun c : Dev nD => (bigSep Finset.univ fun k : Fin 8 => (dutyTok ER (yrC k c) 0 false : sProp 𝕄))),
    bigSep_univ_equiv swapX (fun c : Dev nD => (bigSep Finset.univ fun k : Fin 8 => (dutyTok ER (xrC k c) 0 false : sProp 𝕄)))]
  rfl

theorem bars_around : bigSep (Finset.univ.map barTokEmb) (fun x => (dutyTok ER x.1 x.2.1 x.2.2 : sProp 𝕄))
    = iprop((bigSep Finset.univ fun c : Dev nD => dutyTok ER (barC (devX c)) 0 true) ∗ bigSep Finset.univ fun c : Dev nD => dutyTok ER (barC (devY c)) 0 false) := by
  rw [bigSep_map, bigSep_univ_prod]
  simp only [bigSep_bool]
  rw [bigSep_sep']
  exact congrArg₂ (fun a b : sProp 𝕄 => iprop(a ∗ b)) (bigSep_univ_equiv swapX (fun c : Dev nD => (dutyTok ER (barC c) 0 true : sProp 𝕄)))
    (bigSep_univ_equiv swapY (fun c : Dev nD => (dutyTok ER (barC c) 0 false : sProp 𝕄)))

/-! ## A device's start -/

/-- What of a device's launch holdings is not the talk's ghost state. -/
def bundle (c : Dev nD) : sProp 𝕄 :=
  iprop(StableHlo.held (c : Thread nD τ) (Pipeline.ucRefs τ sig) (V0 m c) ∗ (cred (tallyAt (barC c) () 2) ∗ bigSep Finset.univ fun k : Fin 8 => credK c k)
    ∗ owes (c : Thread nD τ) (O₀ c) ∅ ∗ ∃ r, prngReg c r)

abbrev T₀ (c : Dev nD) : sProp 𝕄 := iprop(StableHlo.held (c : Thread nD τ) (Pipeline.ucRefs τ sig) (V0 m c) ∗ rides m c)

theorem T₀_intro (κ : GSem nD τ sig → ℕ) (c : Dev nD) : iprop(records m κ ∗ (linear c ∗ bundle m c)) ⊢ T₀ m c := by
  unfold records linear bundle T₀ rides closed barTok
  iintro ⟨⟨#HI, #HR⟩, ⟨Hat, Ho, HtY, HtX, Hd⟩, Hh, ⟨Hb, Hc⟩, HO, Hp⟩
  isplitl [Hh]; · iexact Hh
  isplitr [HO Hp]
  · iexists κ
    isplitr; · iapply (recs_of m κ); iexact HI
    isplitl [HtY HtX Hb Hat]
    · isplitl [HtY]; · iexact HtY
      isplitr; · iapply (reached_at (F := F) (devY c)); iexact HR
      isplitl [HtX]; · iexact HtX
      isplitr; · iapply (reached_at (F := F) (devX c)); iexact HR
      isplitl [Hb] <;> iassumption
    isplitl [Ho]; · iexact Ho
    isplitl [Hd] <;> iassumption
  isplitl [Hp]; · iexact Hp
  iexists ∅; iexact HO

theorem unscopedSems0_eq (c : Dev nD) : (unscopedSems0 c : sProp 𝕄) = semVal (barC c) 0 := by
  unfold unscopedSems0
  rw [show (Finset.univ.filter fun sm : SemLoc sig => ¬ sm.isScoped .tc) = {SemLoc.reg bar.sem} from by decide +kernel, BI.bigSep_singleton]

/-- All devices' launch holdings make every device's start. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barC c) 0 ∗ G c)) : sProp 𝕄) := by
    rw [show (unscopedBufs c (fun b => m ((c : Thread nD τ).loc b)) : sProp 𝕄) = StableHlo.held (c : Thread nD τ) (Pipeline.ucRefs τ sig) (V0 m c)
        from Pipeline.unscopedBufs_held c (V0 m c), unscopedSems0_eq]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄)) ⊢ bigSep Finset.univ fun c : Dev nD => bigSep Finset.univ fun k : Fin 8 => openK c k :=
    Entails.of_eq (bigSep_sc _)
  have htok : bigSep talkToks (fun x => (dutyTok ER x.1 x.2.1 x.2.2 : sProp 𝕄))
      ⊢ iprop(((bigSep Finset.univ fun c : Dev nD => dutyTok ER (barC (devX c)) 0 true) ∗ bigSep Finset.univ fun c : Dev nD => dutyTok ER (barC (devY c)) 0 false)
        ∗ bigSep Finset.univ fun c : Dev nD => bigSep Finset.univ fun k : Fin 8 => dutyK c k) := by
    unfold talkToks
    rw [bigSep_union disjoint_toks, scToks_eq, bigSep_sc, bars_around, duties_around]
    exact BI.Entails.refl _
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barC c) 0 ∗ G c)) : sProp 𝕄) from bigSep_mono fun c _ => hcore c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (G (F := F)) ⊢ BI.own (ER (launchOf barCells scCells talkToks)) from
    Entails.of_eq (bigSep_parked (F := F) (BI.own (ER (launchOf barCells scCells talkToks))))) $$ HG
  imod (Rounds.fund_launch ER (talkRd (ins m)) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records
    isplitr; · iexact Hinv
    iexact Hr
  iapply (Entails.of_eq (bigSep_sep' _ _ _).symm)
  isplitr [HB]
  · unfold linear
    ihave Ht := htok $$ Htok
    icases Ht with ⟨⟨HtX, HtY⟩, Hd⟩
    iapply (Entails.of_eq (bigSep_sep' _ _ _).symm); isplitl [Hat]; · iapply hat $$ Hat
    iapply (Entails.of_eq (bigSep_sep' _ _ _).symm); isplitl [Hopen]; · iapply hopen $$ Hopen
    iapply (Entails.of_eq (bigSep_sep' _ _ _).symm); isplitl [HtY]; · iexact HtY
    iapply (Entails.of_eq (bigSep_sep' _ _ _).symm); isplitl [HtX]; · iexact HtX
    iexact Hd
  · iexact HB

/-! ## The run -/

theorem Vend_ne (c : Dev nD) (r : Ref sig .tc) (h : r ≠ main_v15) : Vend m c (Proc.devRef .tc r) = V3 m c (Proc.devRef .tc r) :=
  Function.update_of_ne (StableHlo.devRef_ne_of_ne h) _ _
theorem Vend_main_arg0 (c : Dev nD) : Vend m c (Proc.devRef .tc main_arg0) = m ((c : Thread nD τ).loc main_arg0) :=
  (Vend_ne m c main_arg0 (by decide)).trans <| (V3_of m c main_arg0 (by decide)).trans <| (V2_of m c main_arg0 (by decide)).trans <| (V1_of m c main_arg0 (by decide)).trans rfl
theorem Vend_main_arg1 (c : Dev nD) : Vend m c (Proc.devRef .tc main_arg1) = m ((c : Thread nD τ).loc main_arg1) :=
  (Vend_ne m c main_arg1 (by decide)).trans <| (V3_of m c main_arg1 (by decide)).trans <| (V2_of m c main_arg1 (by decide)).trans <| (V1_of m c main_arg1 (by decide)).trans rfl

theorem unscoped_eq : ∀ sm : SemLoc sig, sm.isScoped .tc = false → sm = .reg bar.sem := by decide +kernel

abbrev Tₙ (c : Dev nD) : sProp 𝕄 := iprop(StableHlo.held (c : Thread nD τ) (Pipeline.ucRefs τ sig) (Vend m c) ∗ semVal (barC c) 0)

set_option backward.isDefEq.respectTransparency.types false in
/-- The whole program, from any memory with zero counters: it terminates, leaves both arguments as they were and every
    counter at zero, and device `c`'s result is `outV (ins m) c`. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v15) = outV (ins m) c) ∧ r.2.sem = fun _ => 0) :=
  Pipeline.θ_run_regions_kit_dev_sems (pcfgs (F := F)) adm (pdats m) () cellOf_inj EP defs₀ 𝒱₀ L lv m ρ main
    (segs m 𝒱₀ L lv (fun _ => rides m) () (pdats m) (reg0 m))
    (fun c Q => by
      rewrite [main_chain c, Pipeline.Seg.run_eq_chain,
        show (segs m 𝒱₀ L lv (fun _ => rides m) () (pdats m) (reg0 m) c).map Pipeline.Seg.prog = [
          StableHlo.seq (hostOps0 c), StableHlo.seq hostOps0_1, StableHlo.seq hostOps0_2,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      ihave HX := (own_pair_emb embR _ _) $$ HX
      icases HX with ⟨HX, -⟩
      imodintro
      isplitl [HP]; · iexact HP
      rw [bigSep_parked]
      unfold ER
      iexact HX)
    (T₀ := T₀ m) (Tₙ := Tₙ m)
    (hch := fun c => ⟨.rfl, .rfl, .rfl, reg0_pre m c, (reg0_post m c).trans (by
      iintro ⟨Hh, Hb, HO⟩
      isplitr [HO]
      · isplitl [Hh] <;> iassumption
      · iexact HO)⟩)
    (hinit := init m ρ)
    (QY := fun c s => (s.mem ((c : Thread nD τ).loc main_arg0) = m ((c : Thread nD τ).loc main_arg0)
        ∧ s.mem ((c : Thread nD τ).loc main_arg1) = m ((c : Thread nD τ).loc main_arg1)
        ∧ s.mem ((c : Thread nD τ).loc main_v15) = outV (ins m) c) ∧ s.sem (barC c) = 0)
    (hfin := fun c s' => by
      unfold Tₙ StableHlo.held
      iintro ⟨⟨Hh, Hb⟩, HSI⟩
      ihave Hr := (pointsTo_read_all (Pipeline.ucRefs τ sig) (fun b => ((c : Thread nD τ).1, b)) (Vend m c) s') $$ [Hh HSI]
      · isplitl [Hh] <;> iassumption
      icases Hr with ⟨%h, HSI⟩
      icombine HSI Hb gives %hb
      imodintro
      isplitr
      · ipureintro
        exact ⟨⟨(h (Proc.devRef .tc main_arg0) (Finset.mem_filter.mpr ⟨StableHlo.devRef_mem_tcRefs main_arg0, by decide⟩)).trans (Vend_main_arg0 m c),
          (h (Proc.devRef .tc main_arg1) (Finset.mem_filter.mpr ⟨StableHlo.devRef_mem_tcRefs main_arg1, by decide⟩)).trans (Vend_main_arg1 m c),
          (h (Proc.devRef .tc main_v15) (Finset.mem_filter.mpr ⟨StableHlo.devRef_mem_tcRefs main_v15, by decide⟩)).trans (Vend_v15 m c)⟩, by simpa using hb⟩
      · iexact HSI)
    (hQ := fun s h hs => ⟨fun c => (h c).1, sem_eq_zero hs fun c sm hsm => by
        obtain rfl := unscoped_eq sm hsm
        exact (h c).2⟩)

end Cert.Proof.Lookup

end
-- ==== Proof.Same.lean ====
/- The printed kernel and its idealization are one program: the same body table and the same @main over any float
   values. -/
module

public import proofs.«01_k».proof.Proof.Gen.Kernel
public import proofs.«01_k».proof.Proof.Gen.KernelIdeal

@[expose] public section

noncomputable section

namespace Cert.Proof.Lookup

open Idealize.ShloMosaic Idealize.ShloMosaic.TcCoe Idealize.SL.Sem

variable {F : FTy → Type} [FloatOps F]

/-- One body, -/
theorem same_body : Cert.Kernel.cc0_body (F := F) = Cert.KernelIdeal.cc0_body (F := F) := rfl

set_option maxHeartbeats 2000000 in
/-- one table of the kernels' bodies, -/
theorem same_defs₀ : Cert.Kernel.defs₀ (F := F) = Cert.KernelIdeal.defs₀ (F := F) := by
  funext p l a
  cases p with
  | tc =>
    match l, a with
    | ⟨0, _⟩, (t, s) =>
      unfold Cert.Kernel.defs₀ Cert.KernelIdeal.defs₀
      rw [Defs.onTc_tc, Defs.onTc_tc]
      show Cert.Kernel.cc0_body (F := F) _ _ _ _ _ _ _ _ _ _ _ _ _ _ _ _ _ _ _ _ _ _ _ = Cert.KernelIdeal.cc0_body (F := F) _ _ _ _ _ _ _ _ _ _ _ _ _ _ _ _ _ _ _ _ _ _ _
      rw [same_body]
  | scScalar _ => rfl
  | scVector _ _ => rfl

/-- one table with the pallas_call's pipeline, -/
theorem same_defs : Cert.Kernel.defs (F := F) = Cert.KernelIdeal.defs (F := F) := congrArg (Pipeline.defs Cert.KernelIdeal.pcfgs) same_defs₀

set_option maxHeartbeats 8000000 in
/-- and one @main. -/
theorem same_main : Cert.Kernel.main (F := F) = Cert.KernelIdeal.main (F := F) := rfl

end Cert.Proof.Lookup

end
-- ==== Proof.Ref.lean ====
/- The reference: what the precondition says of the ids, and the looked-up rows. -/
module

public import proofs.«01_k».proof.Defs
public import proofs.«01_k».proof.Proof.Gen.ReferenceIdeal
public import proofs.«01_k».proof.Proof.Gen.ReferenceIdeal.Run
public import Idealize.ShloMosaic.Lib.Routing.Ops
public import Idealize.ShloMosaic.Lib.ReduceAll
public import Idealize.ShloMosaic.Lib.StableHlo.Predicate
public import Idealize.ShloMosaic.Lib.ValueIdx
public import Idealize.ShloMosaic.Lib.Pipeline.Value

@[expose] public section

noncomputable section

namespace Cert.Proof.Lookup

open Idealize.ShloMosaic Idealize.ShloMosaic.TcCoe
open Idealize.ShloMosaic.ValueIdx
open Cert.ReferenceIdeal Cert.ReferenceIdeal.Gen

instance facts_pre : Cert.Pre_in_vocab_KernelIdeal.Facts := ⟨by decide, by decide, by decide⟩
instance facts_preR : Cert.Pre_in_vocab_ReferenceIdeal.Facts := ⟨by decide, by decide, by decide⟩

/-- A word that is at least 0 and below 16384 as a signed number. -/
theorem word_lt {x : BitVec 32} (h0 : IntOp.cmpi .sge x 0#32 = 1#1) (h1 : IntOp.cmpi .slt x 16384#32 = 1#1) : x.toNat < 16384 := by
  have h := BitVec.toInt_eq_toNat_cond x
  have hx := x.isLt
  unfold IntOp.cmpi at h0 h1
  have h0' := (StableHlo.Predicate.ofBool_eq_one_iff _).mp h0
  have h1' := (StableHlo.Predicate.ofBool_eq_one_iff _).mp h1
  have a : (0#32).toInt = 0 := by decide
  have b : (16384#32).toInt = 16384 := by decide
  have h0'' : (0#32).sle x = true := h0'
  have h1'' : x.slt 16384#32 = true := h1'
  rw [BitVec.sle_iff_toInt_le, a] at h0''
  rw [BitVec.slt_iff_toInt_lt, b] at h1''
  split at h <;> omega

/-- The precondition: every id is a row of the table. -/
theorem ids_lt (X : S1024.Idx → BitVec 32) (Y : FVec Ideal Cert.Pre_in_vocab_KernelIdeal.S8192x1024 .f32)
    (h : Cert.Pre_in_vocab_KernelIdeal.fn (F := Ideal) X Y = fun _ => 1#1) (i : S1024.Idx) : (X i).toNat < 16384 := by
  have h2 := congrFun h ix0
  unfold Cert.Pre_in_vocab_KernelIdeal.fn at h2
  haveI : Subsingleton Cert.Pre_in_vocab_KernelIdeal.S_.Idx := ⟨fun a b => funext fun x => x.elim0⟩
  have h3 := Host.reduce_andi_all _ _ _ _ _ h2 i
  have h4 : IntOp.cmpi .sge (X i) 0#32 &&& IntOp.cmpi .slt (X i) 16384#32 = 1#1 := h3
  obtain ⟨a, b⟩ : IntOp.cmpi .sge (X i) 0#32 = 1#1 ∧ IntOp.cmpi .slt (X i) 16384#32 = 1#1 := by
    generalize IntOp.cmpi .sge (X i) 0#32 = p at h4 ⊢
    generalize IntOp.cmpi .slt (X i) 16384#32 = q at h4 ⊢
    revert p q; decide
  exact word_lt a b

/-- The looked-up rows. -/
def rows (X : S1024.Idx → BitVec 32) (T : S16384x1024.Idx → EReal) (hX : ∀ i, (X i).toNat < 16384) : S1024x1024.Idx → EReal :=
  fun y => T (ix2 ⟨(X (ix1 (y 0))).toNat, hX _⟩ (y 1))

/-- What the reference computes. -/
theorem ref_eq (X : S1024.Idx → BitVec 32) (T : S16384x1024.Idx → EReal) (hX : ∀ i, (X i).toNat < 16384) :
    (Host.gather gather_S16384x1024_S1024x1_S1024x1024_1_0_n_n_0_1_11024 T (broadcastInDim S1024x1 ![0] bcast_S1024_S1024x1_0
      (select (cmpi .slt X (broadcastInDim S1024 ![] bcast_S_S1024 (constantI S_ 32 0#32)))
        (addi X (broadcastInDim S1024 ![] bcast_S_S1024 (constantI S_ 32 16384#32))) X)) : S1024x1024.Idx → EReal) = rows X T hX := by
  funext y
  have hs : (select (cmpi .slt X (broadcastInDim S1024 ![] bcast_S_S1024 (constantI S_ 32 0#32)))
        (addi X (broadcastInDim S1024 ![] bcast_S_S1024 (constantI S_ 32 16384#32))) X : S1024.Idx → BitVec 32) = X := by
    funext i
    show (if IntOp.cmpi .slt (X i) 0#32 = 1#1 then _ else X i) = X i
    rw [if_neg]
    rw [StableHlo.Predicate.slt_iff_toNat (by have := hX i; omega) (by decide)]
    exact Nat.not_lt_zero _
  rw [hs]
  have hy : y = ix2 (y 0) (y 1) := by funext a; match a with | ⟨0, _⟩ => rfl | ⟨1, _⟩ => rfl
  rw [hy]
  refine (Routing.gather_row gather_S16384x1024_S1024x1_S1024x1024_1_0_n_n_0_1_11024 rfl rfl rfl rfl rfl T _ (y 0) (y 1) ⟨(X (ix1 (y 0))).toNat, hX _⟩ ?_ (by decide)).trans rfl
  refine (broadcastInDim_apply (s := S1024) (t := S1024x1) ![0] bcast_S1024_S1024x1_0 X _ (ix1 (y 0)) (fun a => by match a with | ⟨0, _⟩ => rfl)).trans ?_
  apply BitVec.eq_of_toNat_eq
  rw [BitVec.toNat_ofNat]
  exact (Nat.mod_eq_of_lt (X _).isLt).symm

end Cert.Proof.Lookup

end
-- ==== Proof.Value.lean ====
/- The kernel's result over the extended reals: the looked-up rows. -/
module

public import proofs.«01_k».proof.Proof.Host
public import proofs.«01_k».proof.Proof.Ref
public import Idealize.ShloMosaic.Lib.IdealHost
public import Idealize.ShloMosaic.Lib.StableHlo.Predicate

@[expose] public section

noncomputable section

namespace Cert.Proof.Lookup

open Idealize.ShloMosaic Idealize.ShloMosaic.TcCoe
open Idealize.ShloMosaic.ValueIdx
open Cert.KernelIdeal Cert.KernelIdeal.Gen

/-! ## Devices -/

theorem devY_half (c : Dev nD) : (devY c).val / 2 = c.val / 2 := by revert c; decide
theorem devY_par (c : Dev nD) : (devY c).val % 2 = 1 - c.val % 2 := by revert c; decide
theorem devX_half (c : Dev nD) : (devX c).val / 2 = 1 - c.val / 2 := by revert c; decide
theorem baseW_eq (c : Dev nD) : baseW c = baseB c := by revert c; decide
theorem baseB_toNat (c : Dev nD) : (baseB c).toNat = 8192 * (c.val % 2) := by revert c; decide
theorem dev_half_lt (c : Dev nD) : c.val / 2 < 2 := by have h : c.val < 4 := c.isLt; omega

theorem off11_eq (c : Dev nD) (k : Fin 8) : k0_off11 c (BitVec.ofNat 32 (64 * k.val)) 0 = 512 * (c.val / 2) + 64 * k.val := by revert c k; decide

/-- Row `i` of a device's half is a row of the table. -/
theorem half_lt (c : Dev nD) (i : Fin 8192) : 8192 * (c.val % 2) + i.val < 16384 := by omega

/-! ## The index words -/

section Words
variable (m : (ℓ : Loc nD τ sig) → Buf (Elt Ideal) ℓ)

/-- The id of row `r` of the 512 rows of device `c`. -/
def rowIx (c : Dev nD) (r : ℕ) (h : r < 512) : S1024.Idx := ix1 ⟨512 * (c.val / 2) + r, by have := dev_half_lt c; omega⟩

theorem srcRow_eq (c : Dev nD) (r : ℕ) (h : r < 512) : srcRow (ins m) c r = (safeW m c (rowIx c r h)).toNat := by
  have hc := dev_half_lt c
  have hw : (ins m).pk c (wordOf c r) = packW (safeW m c (evenI (wordOf c r))) (safeW m c (oddI (wordOf c r))) := congrFun (v13_eq m c) (wordOf c r)
  have hmod : (256 * (c.val / 2) + r / 2) % 512 = 256 * (c.val / 2) + r / 2 := Nat.mod_eq_of_lt (by omega)
  unfold srcRow
  rw [hw]
  by_cases hr : r % 2 = 0
  · rw [if_pos hr]
    refine (off3_pack _ _ (clipW_lt _) (clipW_lt _)).trans ?_
    have e : evenI (wordOf c r) = rowIx c r h := by
      funext a; match a with | ⟨0, _⟩ => exact Fin.ext (by show 2 * ((256 * (c.val / 2) + r / 2) % 512) = 512 * (c.val / 2) + r; rw [hmod]; omega)
    show (safeW m c _).toNat = _
    rw [e]
  · rw [if_neg hr]
    refine (off5_pack _ _ (clipW_lt _) (clipW_lt _)).trans ?_
    have e : oddI (wordOf c r) = rowIx c r h := by
      funext a; match a with | ⟨0, _⟩ => exact Fin.ext (by show 2 * ((256 * (c.val / 2) + r / 2) % 512) + 1 = 512 * (c.val / 2) + r; rw [hmod]; omega)
    show (safeW m c _).toNat = _
    rw [e]

/-- Row `64 k + i` of a device's 512. -/
theorem row_lt (k : Fin 8) (i : Fin 64) : 64 * k.val + i.val < 512 := by omega

theorem idsCh_apply (c : Dev nD) (k : Fin 8) (i : Fin 64) :
    (idsCh (ins m) c k : S64x1.Idx → BitVec 32) (ix2 i 0) = idsAt m c (rowIx c (64 * k.val + i.val) (row_lt k i)) := by
  have hc := dev_half_lt c
  have e : (idsCh (ins m) c k : S64x1.Idx → BitVec 32) (ix2 i 0) = (ins m).ids c ((rIds c k).toLoadRect.idx (ix2 i 0)) := by
    unfold idsCh; rfl
  rw [e]
  refine (congrFun (v14_eq m c) _).trans ?_
  refine shapeCast_apply (idsAt m c) _ _ _ ?_
  rw [Shape.rowMajor_val_one, Shape.rowMajor_val_two]
  have h0 : ((rIds c k).toLoadRect.idx (ix2 i 0) 0).val = 512 * (c.val / 2) + 64 * k.val + i.val := by
    rw [← off11_eq c k]; simp [LoadRect.idx]
  have h1 : ((rIds c k).toLoadRect.idx (ix2 i 0) 1).val = 0 := by
    have h : ((rIds c k).toLoadRect.idx (ix2 i 0) 1).val < 1 := ((rIds c k).toLoadRect.idx (ix2 i 0) 1).isLt
    omega
  rw [h0, h1]
  show 512 * (c.val / 2) + (64 * k.val + i.val) = (512 * (c.val / 2) + 64 * k.val + i.val) * 1 + 0
  omega

theorem gCh_apply (c : Dev nD) (k : Fin 8) (i : Fin 64) (j : Fin 1024) :
    (gCh (ins m) c k : S64x1024.Idx → EReal) (ix2 i j)
      = tabAt m c (ix2 ⟨(safeW m c (rowIx c (64 * k.val + i.val) (row_lt k i))).toNat, clipW_lt _⟩ j) := by
  have e : (gCh (ins m) c k : S64x1024.Idx → EReal) (ix2 i j) = gV (ins m) c ((rc k).toLoadRect.idx (ix2 i j)) := by unfold gCh; rfl
  have h0 : ((rc k).toLoadRect.idx (ix2 i j) 0).val = 64 * k.val + i.val := by simp [LoadRect.idx]
  have h1 : ((rc k).toLoadRect.idx (ix2 i j) 1) = j := Fin.ext (by simp [LoadRect.idx])
  rw [e]
  unfold gV
  rw [ins_E]
  refine congrArg (tabAt m c) ?_
  funext a
  match a with
  | ⟨0, _⟩ => exact Fin.ext ((congrArg (srcRow (ins m) c) h0).trans (srcRow_eq m c _ (row_lt k i)))
  | ⟨1, _⟩ => exact h1

end Words

/-! ## The payloads -/

/-- A row masked by whether its id lies in the half that starts at `b`. -/
theorem pay1_apply (b : BitVec 32) (ids : S64x1.Idx → BitVec 32) (g : S64x1024.Idx → EReal) (i : Fin 64) (j : Fin 1024) :
    (k0_pay1 (F := Ideal) b ids g : S64x1024.Idx → EReal) (ix2 i j)
      = if IntOp.cmpi .sge (ids (ix2 i 0) - b) 0#32 &&& IntOp.cmpi .slt (ids (ix2 i 0) - b) 8192#32 = 1#1 then g (ix2 i j) else 0 := by
  unfold k0_pay1
  refine (congrFun (shapeCast_self _ _) _).trans ?_
  have hb : (broadcastTo S64x1024 (shapeCast S64x1 (andi (cmpi .sge (subi (shapeCast S64x1 ids shapeCasts_S64x1_S64x1) (broadcast S64x1 b)) (broadcast S64x1 0#32))
      (cmpi .slt (subi (shapeCast S64x1 ids shapeCasts_S64x1_S64x1) (broadcast S64x1 b)) (broadcast S64x1 8192#32))) shapeCasts_S64x1_S64x1) broadcasts_S64x1_S64x1024) (ix2 i j)
      = IntOp.cmpi .sge (ids (ix2 i 0) - b) 0#32 &&& IntOp.cmpi .slt (ids (ix2 i 0) - b) 8192#32 := by
    refine (broadcastTo_apply _ _ _ (ix2 i 0) ?_).trans ?_
    · intro a; match a with
      | ⟨0, _⟩ => rfl
      | ⟨1, _⟩ => rfl
    · rw [shapeCast_self, shapeCast_self]; rfl
  have hz : (Scalar.ofBits .f32 0x00000000#32 : Ideal .f32) = (0 : EReal) := Ideal.ofBits_zero_f32
  show (if _ = 1#1 then g (ix2 i j) else (Scalar.ofBits .f32 0x00000000#32 : Ideal .f32)) = _
  rw [hz]
  exact if_congr (by rw [← hb]) rfl rfl

theorem pay5_apply (a b : S64x1024.Idx → EReal) (y : S64x1024.Idx) : (k0_pay5 (F := Ideal) a b : S64x1024.Idx → EReal) y = a y + b y := rfl
theorem pay4_apply (a b : S64x1024.Idx → EReal) (y : S64x1024.Idx) : (k0_pay4 (F := Ideal) a b : S64x1024.Idx → EReal) y = a y + b y := by
  unfold k0_pay4
  exact congrFun (shapeCast_self _ _) y
theorem pay10_apply (a : S64x1024.Idx → EReal) (y : S64x1024.Idx) : (k0_pay10 (F := Ideal) a : S64x1024.Idx → EReal) y = a y := rfl

/-! ## The mask -/

/-- The mask holds exactly of the ids in the half that starts at `8192 q`. -/
theorem mask_iff (x b : BitVec 32) (q : ℕ) (hq : q < 2) (hb : b.toNat = 8192 * q) (hx : x.toNat < 16384) :
    (IntOp.cmpi .sge (x - b) 0#32 &&& IntOp.cmpi .slt (x - b) 8192#32 = 1#1) ↔ x.toNat / 8192 = q := by
  have hand : ∀ p r : BitVec 1, (p &&& r = 1#1) ↔ (p = 1#1 ∧ r = 1#1) := by decide
  have hs : (x - b).toNat = (2 ^ 32 - b.toNat + x.toNat) % 2 ^ 32 := BitVec.toNat_sub x b
  have hi := BitVec.toInt_eq_toNat_cond (x - b)
  have a : (0#32).toInt = 0 := by decide
  have d : (8192#32).toInt = 8192 := by decide
  have e0 : IntOp.cmpi .sge (x - b) 0#32 = 1#1 ↔ 0 ≤ (x - b).toInt := by
    rw [← a, ← BitVec.sle_iff_toInt_le]; exact StableHlo.Predicate.ofBool_eq_one_iff _
  have e1 : IntOp.cmpi .slt (x - b) 8192#32 = 1#1 ↔ (x - b).toInt < 8192 := by
    rw [← d, ← BitVec.slt_iff_toInt_lt]; exact StableHlo.Predicate.ofBool_eq_one_iff _
  rw [hand, e0, e1]
  split at hi <;> omega

theorem clip_sub (x b : BitVec 32) (q : ℕ) (hq : q < 2) (hb : b.toNat = 8192 * q) (hx : x.toNat < 16384) (h : x.toNat / 8192 = q) :
    (clipW (x - b)).toNat = x.toNat - 8192 * q := by
  have hs : (x - b).toNat = (2 ^ 32 - b.toNat + x.toNat) % 2 ^ 32 := BitVec.toNat_sub x b
  rw [clipW_of _ (by omega)]
  omega

/-! ## The rows -/

section Rows
variable (m : (ℓ : Loc nD τ sig) → Buf (Elt Ideal) ℓ) (X : S1024.Idx → BitVec 32) (T : (⟨2, ![16384, 1024]⟩ : Shape).Idx → EReal)
  (hX : ∀ i, (X i).toNat < 16384) (hm : ∀ c, idsAt m c = X)
  (ht : ∀ c (i : Fin 8192) (j : Fin 1024), tabAt m c (ix2 i j) = T (ix2 ⟨8192 * (c.val % 2) + i.val, half_lt c i⟩ j))
include hm ht

/-- What a device adds of a row: the row where its half of the table holds it, else zeros. -/
theorem ysCh_apply (c : Dev nD) (k : Fin 8) (i : Fin 64) (j : Fin 1024) :
    (ysCh (ins m) c k : S64x1024.Idx → EReal) (ix2 i j)
      = if (X (rowIx c (64 * k.val + i.val) (row_lt k i))).toNat / 8192 = c.val % 2
        then T (ix2 ⟨(X (rowIx c (64 * k.val + i.val) (row_lt k i))).toNat, hX _⟩ j) else 0 := by
  refine (pay1_apply (baseW c) (idsCh (ins m) c k) (gCh (ins m) c k) i j).trans ?_
  have hi : (idsCh (ins m) c k : S64x1.Idx → BitVec 32) (ix2 i 0) = X (rowIx c (64 * k.val + i.val) (row_lt k i)) := by
    rw [idsCh_apply, hm]
  have hq : c.val % 2 < 2 := Nat.mod_lt _ (by decide)
  have hM := mask_iff (X (rowIx c (64 * k.val + i.val) (row_lt k i))) (baseB c) (c.val % 2) hq (baseB_toNat c) (hX _)
  rw [hi, baseW_eq]
  by_cases h : (X (rowIx c (64 * k.val + i.val) (row_lt k i))).toNat / 8192 = c.val % 2
  · rw [if_pos (hM.mpr h), if_pos h, gCh_apply, ht]
    have hs : (safeW m c (rowIx c (64 * k.val + i.val) (row_lt k i))).toNat = (X (rowIx c (64 * k.val + i.val) (row_lt k i))).toNat - 8192 * (c.val % 2) := by
      unfold safeW
      rw [hm]
      exact clip_sub _ _ _ hq (baseB_toNat c) (hX _) h
    refine congrArg T ?_
    funext a
    match a with
    | ⟨0, _⟩ => exact Fin.ext (by show 8192 * (c.val % 2) + (safeW m c _).toNat = _; rw [hs]; show _ = (X (rowIx c (64 * k.val + i.val) (row_lt k i))).toNat; omega)
    | ⟨1, _⟩ => rfl
  · rw [if_neg (fun e => h (hM.mp e)), if_neg h]

/-- The two halves' sum is the row. -/
theorem sum_apply (c : Dev nD) (k : Fin 8) (i : Fin 64) (j : Fin 1024) :
    (ysCh (ins m) c k : S64x1024.Idx → EReal) (ix2 i j) + (ysCh (ins m) (devY c) k : S64x1024.Idx → EReal) (ix2 i j)
      = T (ix2 ⟨(X (rowIx c (64 * k.val + i.val) (row_lt k i))).toNat, hX _⟩ j) := by
  have hr : rowIx (devY c) (64 * k.val + i.val) (row_lt k i) = rowIx c (64 * k.val + i.val) (row_lt k i) := by
    funext a; match a with | ⟨0, _⟩ => exact Fin.ext (by show 512 * ((devY c).val / 2) + _ = 512 * (c.val / 2) + _; rw [devY_half])
  rw [ysCh_apply m X T hX hm ht c, ysCh_apply m X T hX hm ht (devY c), hr, devY_par]
  have hx := hX (rowIx c (64 * k.val + i.val) (row_lt k i))
  by_cases h : (X (rowIx c (64 * k.val + i.val) (row_lt k i))).toNat / 8192 = c.val % 2
  · have h' : ¬ (X (rowIx c (64 * k.val + i.val) (row_lt k i))).toNat / 8192 = 1 - c.val % 2 := by omega
    rw [if_pos h, if_neg h', add_zero]
  · have h' : (X (rowIx c (64 * k.val + i.val) (row_lt k i))).toNat / 8192 = 1 - c.val % 2 := by omega
    rw [if_neg h, if_pos h', zero_add]

/-- Every device's result is the looked-up rows. -/
theorem outV_eq (c : Dev nD) : (outV (ins m) c : S1024x1024.Idx → EReal) = rows X T hX := by
  funext y
  have hc := dev_half_lt c
  have hy : (y 0).val < 1024 := (y 0).isLt
  have hk : (y 0).val % 512 / 64 < 8 := by omega
  have hi : (y 0).val % 512 % 64 < 64 := Nat.mod_lt _ (by decide)
  have key : ∀ d : Dev nD, (y 0).val / 512 = d.val / 2 →
      T (ix2 ⟨(X (rowIx d (64 * ((y 0).val % 512 / 64) + (y 0).val % 512 % 64) (by omega))).toNat, hX _⟩ (y 1)) = rows X T hX y := by
    intro d hd
    have e : rowIx d (64 * ((y 0).val % 512 / 64) + (y 0).val % 512 % 64) (by omega) = ix1 (y 0) := by
      funext a; match a with | ⟨0, _⟩ => exact Fin.ext (by show 512 * (d.val / 2) + (64 * ((y 0).val % 512 / 64) + (y 0).val % 512 % 64) = (y 0).val; omega)
    unfold rows
    refine congrArg T ?_
    funext a
    match a with
    | ⟨0, _⟩ => exact Fin.ext (congrArg (fun i => (X i).toNat) e)
    | ⟨1, _⟩ => rfl
  by_cases h : (y 0).val / 512 = c.val / 2
  · have e : (outV (ins m) c : S1024x1024.Idx → EReal) y
        = (ysCh (ins m) c ⟨_, hk⟩ : S64x1024.Idx → EReal) (ix2 ⟨_, hi⟩ (y 1)) + (ysCh (ins m) (devY c) ⟨_, hk⟩ : S64x1024.Idx → EReal) (ix2 ⟨_, hi⟩ (y 1)) := by
      unfold outV; rw [if_pos h]; rfl
    exact e.trans ((sum_apply m X T hX hm ht c ⟨_, hk⟩ ⟨_, hi⟩ (y 1)).trans (key c h))
  · have e : (outV (ins m) c : S1024x1024.Idx → EReal) y = (xsCh (ins m) (devX c) ⟨_, hk⟩ : S64x1024.Idx → EReal) (ix2 ⟨_, hi⟩ (y 1)) := by
      unfold outV; rw [if_neg h]; rfl
    have e2 : (xsCh (ins m) (devX c) ⟨_, hk⟩ : S64x1024.Idx → EReal) (ix2 ⟨_, hi⟩ (y 1))
        = (ysCh (ins m) (devX c) ⟨_, hk⟩ : S64x1024.Idx → EReal) (ix2 ⟨_, hi⟩ (y 1)) + (ysCh (ins m) (devY (devX c)) ⟨_, hk⟩ : S64x1024.Idx → EReal) (ix2 ⟨_, hi⟩ (y 1)) :=
      pay4_apply _ _ _
    exact e.trans (e2.trans ((sum_apply m X T hX hm ht (devX c) ⟨_, hk⟩ ⟨_, hi⟩ (y 1)).trans (key (devX c) (by rw [devX_half]; omega))))

end Rows

end Cert.Proof.Lookup

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Ref
public import proofs.«01_k».proof.Proof.Value

@[expose] public section

noncomputable section

namespace Cert.Proof

open Idealize.ShloMosaic Idealize.ShloMosaic.TcCoe Idealize.SL.Sem
open Cert.Proof.Lookup

/-- The kernel over machine floats runs, leaves its arguments unchanged and every counter at zero. -/
theorem frame_kernel : Cert.quiescent_Kernel := by
  intro m ρ _
  rw [same_defs, same_main]
  exact (θ_run Cert.KernelIdeal.defs _ _).mono (fun _ h => ⟨fun c => ⟨(h.1 c).1, (h.1 c).2.1⟩, h.2⟩) (run_main (F := Bits) m ρ)

/-- The same over the extended reals, -/
theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- and from memories whose ids are rows of the table. -/
theorem frame_ideal_pre : Cert.quiescent_KernelIdeal_pre_in_vocab_KernelIdeal := fun m ρ _ => frame_ideal m ρ trivial

/-- The reference runs and leaves its arguments unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_in_vocab_ReferenceIdeal := fun m ρ _ => frame_reference m ρ trivial

/-- A device's half of the table is the rows from `8192 (c % 2)` on. -/
theorem half_apply (T : (⟨2, ![16384, 1024]⟩ : Shape).Idx → EReal) (c : Dev Cert.KernelIdeal.nD) (i : Fin 8192) (j : Fin 1024) :
    Layout.blockN ⟨2, ![8192, 1024]⟩ ⟨2, ![16384, 1024]⟩ (Layout.meshBlock [2, 2] ![[1], []] c) T (by decide) (ValueIdx.ix2 i j)
      = T (ValueIdx.ix2 ⟨8192 * (c.val % 2) + i.val, half_lt c i⟩ j) := by
  refine congrArg T ?_
  funext b
  match b with
  | ⟨0, _⟩ =>
    have h : Layout.meshLin [2, 2] c.val [1] = c.val % 2 := by revert c; decide
    exact Fin.ext (by show Layout.meshLin [2, 2] c.val [1] * 8192 + i.val = 8192 * (c.val % 2) + i.val; rw [h, Nat.mul_comm])
  | ⟨1, _⟩ => exact Fin.ext (by show 0 * 1024 + j.val = j.val; omega)

/-- Kernel and reference compute the same rows over the extended reals. -/
theorem algebraic : Cert.algebraic_KernelIdeal_ReferenceIdeal_pre_in_vocab_KernelIdeal := by
  intro m g m' g' hpre hagree
  have hX : ∀ i, ((m' (((0 : Dev Cert.ReferenceIdeal.nD).tc : Thread Cert.ReferenceIdeal.nD Cert.ReferenceIdeal.τ).loc Cert.ReferenceIdeal.main_arg0) :
      Cert.ReferenceIdeal.S1024.Idx → BitVec 32) i).toNat < 16384 := by
    intro i
    have h := ids_lt _ _ (hpre 0) i
    rw [(hagree 0).1] at h
    exact h
  have hv : ∀ c, outV (ins m) c = rows _ (m' (((0 : Dev Cert.ReferenceIdeal.nD).tc : Thread Cert.ReferenceIdeal.nD Cert.ReferenceIdeal.τ).loc Cert.ReferenceIdeal.main_arg1)) hX :=
    fun c => outV_eq m _ _ hX (fun c => (hagree c).1) (fun c i j => (congrFun (hagree c).2 (ValueIdx.ix2 i j)).trans (half_apply _ c i j)) c
  refine ⟨rows _ (m' (((0 : Dev Cert.ReferenceIdeal.nD).tc : Thread Cert.ReferenceIdeal.nD Cert.ReferenceIdeal.τ).loc Cert.ReferenceIdeal.main_arg1)) hX, ?_, ?_⟩
  · exact (θ_run Cert.KernelIdeal.defs _ _).mono (fun _ h c => ⟨(h.1 c).2.2.trans (hv c), (h.1 c).1, (h.1 c).2.1⟩) (run_main (F := Ideal) m g)
  · exact (θ_run Cert.ReferenceIdeal.defs _ _).mono (fun _ h => ⟨(h 0).1.trans (ref_eq _ _ hX), (h 0).2.1, (h 0).2.2⟩)
      (Cert.ReferenceIdeal.Value.run (F := Ideal) m' g')

theorem claim : Cert.Claim := ⟨Cert.Kernel.Gen.facts, Cert.KernelIdeal.Gen.facts, Cert.ReferenceIdeal.Gen.facts, facts_pre, facts_preR,
  frame_kernel, frame_ideal, frame_ideal_pre, frame_reference, frame_reference_pre, trivial, algebraic⟩

end Cert.Proof

end
